-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary_KernelIdeal [hPre_in_vocabulary_KernelIdeal : Cert.Pre_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary_ReferenceIdeal [hPre_in_vocabulary_ReferenceIdeal : Cert.Pre_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_vocabulary_KernelIdeal [hKernelIdeal : Cert.KernelIdeal.Facts] [hPre_in_vocabulary_KernelIdeal : Cert.Pre_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary_ReferenceIdeal [hReferenceIdeal : Cert.ReferenceIdeal.Facts] [hPre_in_vocabulary_ReferenceIdeal : Cert.Pre_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_vocabulary_KernelIdeal [hKernelIdeal : Cert.KernelIdeal.Facts] [hReferenceIdeal : Cert.ReferenceIdeal.Facts] [hPre_in_vocabulary_KernelIdeal : Cert.Pre_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary_KernelIdeal : Cert.Pre_in_vocabulary_KernelIdeal.Facts) (hPre_in_vocabulary_ReferenceIdeal : Cert.Pre_in_vocabulary_ReferenceIdeal.Facts),
    quiescent_Kernel (hKernel := hKernel)
    ∧ quiescent_KernelIdeal (hKernelIdeal := hKernelIdeal)
    ∧ quiescent_KernelIdeal_pre_in_vocabulary_KernelIdeal (hKernelIdeal := hKernelIdeal) (hPre_in_vocabulary_KernelIdeal := hPre_in_vocabulary_KernelIdeal)
    ∧ quiescent_ReferenceIdeal (hReferenceIdeal := hReferenceIdeal)
    ∧ quiescent_ReferenceIdeal_pre_in_vocabulary_ReferenceIdeal (hReferenceIdeal := hReferenceIdeal) (hPre_in_vocabulary_ReferenceIdeal := hPre_in_vocabulary_ReferenceIdeal)
    ∧ preserves_Kernel_KernelIdeal
    ∧ algebraic_KernelIdeal_ReferenceIdeal_pre_in_vocabulary_KernelIdeal (hKernelIdeal := hKernelIdeal) (hReferenceIdeal := hReferenceIdeal) (hPre_in_vocabulary_KernelIdeal := hPre_in_vocabulary_KernelIdeal)
-- ==== Pre_in_vocabulary_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S8192x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_in_vocabulary_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S16384x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S8192x1024 : Shape := ⟨2, ![8192, 1024]⟩
abbrev S_ : Shape := ⟨0, ![]⟩
abbrev S512 : Shape := ⟨1, ![512]⟩
abbrev S512x1 : Shape := ⟨2, ![512, 1]⟩
abbrev S1024x1024 : Shape := ⟨2, ![1024, 1024]⟩
abbrev S512x1024 : Shape := ⟨2, ![512, 1024]⟩
abbrev S8 : Shape := ⟨1, ![8]⟩
abbrev S1 : Shape := ⟨1, ![1]⟩
abbrev S1x1024 : Shape := ⟨2, ![1, 1024]⟩
abbrev S64x1 : Shape := ⟨2, ![64, 1]⟩
abbrev S64x1024 : Shape := ⟨2, ![64, 1024]⟩

abbrev nBuf : Space → Nat
  | .hbm => 44
  | .vmem => 4
  | .smem => 1
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .f32⟩
  | .hbm, ⟨42, _⟩ => ⟨S512x1, .f32⟩
  | .hbm, ⟨43, _⟩ => ⟨S1024x1024, .f32⟩
  | .local _ .vmem, ⟨0, _⟩ => ⟨S512x1, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .smem, ⟨0, _⟩ => ⟨S512, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_7 : Ref sig .tc := ⟨.hbm, 26, rfl⟩
abbrev main_v17 : Ref sig .tc := ⟨.hbm, 27, rfl⟩
abbrev main_v18 : Ref sig .tc := ⟨.hbm, 28, rfl⟩
abbrev main_c_8 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_9 : Ref sig .tc := ⟨.hbm, 33, rfl⟩
abbrev main_c_10 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v10 : BitVec 32 := Scalar.muli v2 c2_i32_5
  let v11 : BitVec 32 := Scalar.addi c0_i32 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v12 : BitVec 32 := Scalar.muli v6 c1_i32_6
  let v13 : BitVec 32 := Scalar.addi v11 v12
  v13.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v14 : BitVec 32 := Scalar.muli v7 c2_i32_8
  let v15 : BitVec 32 := Scalar.addi c0_i32_9 v14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v16 : BitVec 32 := Scalar.muli v5 c1_i32_10
  let v17 : BitVec 32 := Scalar.addi v15 v16
  v17.toNat
@[reducible] def k0_t1_loop : Scf.Loop 32 :=
  let c0_i32_12 : BitVec 32 := 0#32
  let c64_i32 : BitVec 32 := 64#32
  let v18 : BitVec 32 := Scalar.addi c0_i32_12 c64_i32
  let c1_i32_13 : BitVec 32 := 1#32
  ⟨c0_i32_12, v18, c1_i32_13⟩
def k0_off1 (k0_t1 : Fin k0_t1_loop.trips) : Fin 1 → Nat :=
  let c0_i32_511 : BitVec 32 := 0#32
  let c0_i32_12 : BitVec 32 := 0#32
  let c1_i32_13 : BitVec 32 := 1#32
  let arg11 : BitVec 32 := Scf.iv c0_i32_12 c1_i32_13 k0_t1
  let v530 : BitVec 32 := Scalar.addi c0_i32_511 arg11
  let v531 : Index := Scalar.indexCast v530
  ![v531.toNat]
def k0_off2 (k0_t1 : Fin k0_t1_loop.trips) : Fin 2 → Nat :=
  let c0_i32_512 : BitVec 32 := 0#32
  let c0_i32_12 : BitVec 32 := 0#32
  let c1_i32_13 : BitVec 32 := 1#32
  let arg11 : BitVec 32 := Scf.iv c0_i32_12 c1_i32_13 k0_t1
  let v533 : BitVec 32 := Scalar.addi c0_i32_512 arg11
  let c0_i32_514 : BitVec 32 := 0#32
  ![v533.toNat, 0]
def k0_off3 (v532 : BitVec 32) : Fin 2 → Nat :=
  let c0_i32_515 : BitVec 32 := 0#32
  ![v532.toNat, 0]

def k0_chk1 (v532 : BitVec 32) : Prop :=
  (∀ a, (k0_off3 v532) a + S1x1024.size a ≤ S8192x1024.size a)
theorem k0_off3_inb : ∀ (v532 : BitVec 32) (k0_hw1 : k0_chk1 v532), ∀ a, (k0_off3 v532) a + S1x1024.size a ≤ S8192x1024.size a := fun v532 k0_hw1 => k0_hw1

@[reducible] def k0_t2_loop : Scf.Loop 32 :=
  let c0_i32_15 : BitVec 32 := 0#32
  let c64_i32_16 : BitVec 32 := 64#32
  let v19 : BitVec 32 := Scalar.addi c0_i32_15 c64_i32_16
  let c1_i32_17 : BitVec 32 := 1#32
  ⟨c0_i32_15, v19, c1_i32_17⟩
def k0_off4 (k0_t2 : Fin k0_t2_loop.trips) : Fin 1 → Nat :=
  let c64_i32_511 : BitVec 32 := 64#32
  let c0_i32_15 : BitVec 32 := 0#32
  let c1_i32_17 : BitVec 32 := 1#32
  let arg11 : BitVec 32 := Scf.iv c0_i32_15 c1_i32_17 k0_t2
  let v530 : BitVec 32 := Scalar.addi c64_i32_511 arg11
  let v531 : Index := Scalar.indexCast v530
  ![v531.toNat]
def k0_off5 (k0_t2 : Fin k0_t2_loop.trips) : Fin 2 → Nat :=
  let c64_i32_512 : BitVec 32 := 64#32
  let c0_i32_15 : BitVec 32 := 0#32
  let c1_i32_17 : BitVec 32 := 1#32
  let arg11 : BitVec 32 := Scf.iv c0_i32_15 c1_i32_17 k0_t2
  let v533 : BitVec 32 := Scalar.addi c64_i32_512 arg11
  let c0_i32_514 : BitVec 32 := 0#32
  ![v533.toNat, 0]
def k0_off6 (v532 : BitVec 32) : Fin 2 → Nat :=
  let c0_i32_515 : BitVec 32 := 0#32
  ![v532.toNat, 0]

def k0_chk2 (v532 : BitVec 32) : Prop :=
  (∀ a, (k0_off6 v532) a + S1x1024.size a ≤ S8192x1024.size a)
theorem k0_off6_inb : ∀ (v532 : BitVec 32) (k0_hw2 : k0_chk2 v532), ∀ a, (k0_off6 v532) a + S1x1024.size a ≤ S8192x1024.size a := fun v532 k0_hw2 => k0_hw2

@[reducible] def k0_t3_loop : Scf.Loop 32 :=
  let c0_i32_19 : BitVec 32 := 0#32
  let c64_i32_20 : BitVec 32 := 64#32
  let v20 : BitVec 32 := Scalar.addi c0_i32_19 c64_i32_20
  let c1_i32_21 : BitVec 32 := 1#32
  ⟨c0_i32_19, v20, c1_i32_21⟩
def k0_dev3 (d0 : Dev nD) : Nat :=
  let c0_i32_31 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_30 : BitVec 32 := 2#32
  let v33 : BitVec 32 := Scalar.muli v2 c2_i32_30
  let v34 : BitVec 32 := Scalar.addi c0_i32_31 v33
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_32 : BitVec 32 := 1#32
  let v35 : BitVec 32 := Scalar.muli v6 c1_i32_32
  let v36 : BitVec 32 := Scalar.addi v34 v35
  v36.toNat
@[reducible] def k0_t4_loop : Scf.Loop 32 :=
  let c0_i32_37 : BitVec 32 := 0#32
  let c64_i32_38 : BitVec 32 := 64#32
  let v43 : BitVec 32 := Scalar.addi c0_i32_37 c64_i32_38
  let c1_i32_39 : BitVec 32 := 1#32
  ⟨c0_i32_37, v43, c1_i32_39⟩
def k0_off7 (k0_t4 : Fin k0_t4_loop.trips) : Fin 1 → Nat :=
  let c128_i32_511 : BitVec 32 := 128#32
  let c0_i32_37 : BitVec 32 := 0#32
  let c1_i32_39 : BitVec 32 := 1#32
  let arg11 : BitVec 32 := Scf.iv c0_i32_37 c1_i32_39 k0_t4
  let v530 : BitVec 32 := Scalar.addi c128_i32_511 arg11
  let v531 : Index := Scalar.indexCast v530
  ![v531.toNat]
def k0_off8 (k0_t4 : Fin k0_t4_loop.trips) : Fin 2 → Nat :=
  let c128_i32_512 : BitVec 32 := 128#32
  let c0_i32_37 : BitVec 32 := 0#32
  let c1_i32_39 : BitVec 32 := 1#32
  let arg11 : BitVec 32 := Scf.iv c0_i32_37 c1_i32_39 k0_t4
  let v533 : BitVec 32 := Scalar.addi c128_i32_512 arg11
  let c0_i32_514 : BitVec 32 := 0#32
  ![v533.toNat, 0]
def k0_off9 (v532 : BitVec 32) : Fin 2 → Nat :=
  let c0_i32_515 : BitVec 32 := 0#32
  ![v532.toNat, 0]

def k0_chk3 (v532 : BitVec 32) : Prop :=
  (∀ a, (k0_off9 v532) a + S1x1024.size a ≤ S8192x1024.size a)
theorem k0_off9_inb : ∀ (v532 : BitVec 32) (k0_hw3 : k0_chk3 v532), ∀ a, (k0_off9 v532) a + S1x1024.size a ≤ S8192x1024.size a := fun v532 k0_hw3 => k0_hw3

@[reducible] def k0_t5_loop : Scf.Loop 32 :=
  let c0_i32_41 : BitVec 32 := 0#32
  let c64_i32_42 : BitVec 32 := 64#32
  let v44 : BitVec 32 := Scalar.addi c0_i32_41 c64_i32_42
  let c1_i32_43 : BitVec 32 := 1#32
  ⟨c0_i32_41, v44, c1_i32_43⟩
def k0_dev4 (d0 : Dev nD) : Nat :=
  let c0_i32_54 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_53 : BitVec 32 := 2#32
  let v57 : BitVec 32 := Scalar.muli v2 c2_i32_53
  let v58 : BitVec 32 := Scalar.addi c0_i32_54 v57
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_55 : BitVec 32 := 1#32
  let v59 : BitVec 32 := Scalar.muli v6 c1_i32_55
  let v60 : BitVec 32 := Scalar.addi v58 v59
  v60.toNat
def k0_off10 (d0 : Dev nD) (c0_i32_60 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v67 : BitVec 32 := Scalar.addi v8 c0_i32_60
  let v79 : Index := Scalar.indexCast v67
  let c0_74 : Index := 0#32
  ![v79.toNat, 0]
def k0_off11 (d0 : Dev nD) (c0_i32_60 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v67 : BitVec 32 := Scalar.addi v8 c0_i32_60
  let c0_i32_80 : BitVec 32 := 0#32
  ![v67.toNat, 0]
def k0_dev5 (d0 : Dev nD) : Nat :=
  let c0_i32_78 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_77 : BitVec 32 := 2#32
  let v81 : BitVec 32 := Scalar.muli v7 c2_i32_77
  let v82 : BitVec 32 := Scalar.addi c0_i32_78 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v83 : BitVec 32 := Scalar.muli v5 c1_i32_79
  let v84 : BitVec 32 := Scalar.addi v82 v83
  v84.toNat
@[reducible] def k0_t6_loop : Scf.Loop 32 :=
  let c0_i32_82 : BitVec 32 := 0#32
  let c64_i32_83 : BitVec 32 := 64#32
  let v91 : BitVec 32 := Scalar.addi c0_i32_82 c64_i32_83
  let c1_i32_84 : BitVec 32 := 1#32
  ⟨c0_i32_82, v91, c1_i32_84⟩
def k0_off12 (k0_t6 : Fin k0_t6_loop.trips) : Fin 1 → Nat :=
  let c192_i32_511 : BitVec 32 := 192#32
  let c0_i32_82 : BitVec 32 := 0#32
  let c1_i32_84 : BitVec 32 := 1#32
  let arg11 : BitVec 32 := Scf.iv c0_i32_82 c1_i32_84 k0_t6
  let v530 : BitVec 32 := Scalar.addi c192_i32_511 arg11
  let v531 : Index := Scalar.indexCast v530
  ![v531.toNat]
def k0_off13 (k0_t6 : Fin k0_t6_loop.trips) : Fin 2 → Nat :=
  let c192_i32_512 : BitVec 32 := 192#32
  let c0_i32_82 : BitVec 32 := 0#32
  let c1_i32_84 : BitVec 32 := 1#32
  let arg11 : BitVec 32 := Scf.iv c0_i32_82 c1_i32_84 k0_t6
  let v533 : BitVec 32 := Scalar.addi c192_i32_512 arg11
  let c0_i32_514 : BitVec 32 := 0#32
  ![v533.toNat, 0]
def k0_off14 (v532 : BitVec 32) : Fin 2 → Nat :=
  let c0_i32_515 : BitVec 32 := 0#32
  ![v532.toNat, 0]

def k0_chk4 (v532 : BitVec 32) : Prop :=
  (∀ a, (k0_off14 v532) a + S1x1024.size a ≤ S8192x1024.size a)
theorem k0_off14_inb : ∀ (v532 : BitVec 32) (k0_hw4 : k0_chk4 v532), ∀ a, (k0_off14 v532) a + S1x1024.size a ≤ S8192x1024.size a := fun v532 k0_hw4 => k0_hw4

@[reducible] def k0_t7_loop : Scf.Loop 32 :=
  let c0_i32_86 : BitVec 32 := 0#32
  let c64_i32_87 : BitVec 32 := 64#32
  let v92 : BitVec 32 := Scalar.addi c0_i32_86 c64_i32_87
  let c1_i32_88 : BitVec 32 := 1#32
  ⟨c0_i32_86, v92, c1_i32_88⟩
def k0_dev6 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v105 : BitVec 32 := Scalar.muli v2 c2_i32_98
  let v106 : BitVec 32 := Scalar.addi c0_i32_99 v105
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_100 : BitVec 32 := 1#32
  let v107 : BitVec 32 := Scalar.muli v6 c1_i32_100
  let v108 : BitVec 32 := Scalar.addi v106 v107
  v108.toNat
def k0_dev7 (d0 : Dev nD) : Nat :=
  let c0_i32_122 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_121 : BitVec 32 := 2#32
  let v129 : BitVec 32 := Scalar.muli v7 c2_i32_121
  let v130 : BitVec 32 := Scalar.addi c0_i32_122 v129
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_123 : BitVec 32 := 1#32
  let v131 : BitVec 32 := Scalar.muli v5 c1_i32_123
  let v132 : BitVec 32 := Scalar.addi v130 v131
  v132.toNat
@[reducible] def k0_t8_loop : Scf.Loop 32 :=
  let c0_i32_126 : BitVec 32 := 0#32
  let c64_i32_127 : BitVec 32 := 64#32
  let v139 : BitVec 32 := Scalar.addi c0_i32_126 c64_i32_127
  let c1_i32_128 : BitVec 32 := 1#32
  ⟨c0_i32_126, v139, c1_i32_128⟩
def k0_off15 (k0_t8 : Fin k0_t8_loop.trips) : Fin 1 → Nat :=
  let c256_i32_511 : BitVec 32 := 256#32
  let c0_i32_126 : BitVec 32 := 0#32
  let c1_i32_128 : BitVec 32 := 1#32
  let arg11 : BitVec 32 := Scf.iv c0_i32_126 c1_i32_128 k0_t8
  let v530 : BitVec 32 := Scalar.addi c256_i32_511 arg11
  let v531 : Index := Scalar.indexCast v530
  ![v531.toNat]
def k0_off16 (k0_t8 : Fin k0_t8_loop.trips) : Fin 2 → Nat :=
  let c256_i32_512 : BitVec 32 := 256#32
  let c0_i32_126 : BitVec 32 := 0#32
  let c1_i32_128 : BitVec 32 := 1#32
  let arg11 : BitVec 32 := Scf.iv c0_i32_126 c1_i32_128 k0_t8
  let v533 : BitVec 32 := Scalar.addi c256_i32_512 arg11
  let c0_i32_514 : BitVec 32 := 0#32
  ![v533.toNat, 0]
def k0_off17 (v532 : BitVec 32) : Fin 2 → Nat :=
  let c0_i32_515 : BitVec 32 := 0#32
  ![v532.toNat, 0]

def k0_chk5 (v532 : BitVec 32) : Prop :=
  (∀ a, (k0_off17 v532) a + S1x1024.size a ≤ S8192x1024.size a)
theorem k0_off17_inb : ∀ (v532 : BitVec 32) (k0_hw5 : k0_chk5 v532), ∀ a, (k0_off17 v532) a + S1x1024.size a ≤ S8192x1024.size a := fun v532 k0_hw5 => k0_hw5

@[reducible] def k0_t9_loop : Scf.Loop 32 :=
  let c0_i32_130 : BitVec 32 := 0#32
  let c64_i32_131 : BitVec 32 := 64#32
  let v140 : BitVec 32 := Scalar.addi c0_i32_130 c64_i32_131
  let c1_i32_132 : BitVec 32 := 1#32
  ⟨c0_i32_130, v140, c1_i32_132⟩
def k0_dev8 (d0 : Dev nD) : Nat :=
  let c0_i32_142 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_141 : BitVec 32 := 2#32
  let v153 : BitVec 32 := Scalar.muli v2 c2_i32_141
  let v154 : BitVec 32 := Scalar.addi c0_i32_142 v153
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_143 : BitVec 32 := 1#32
  let v155 : BitVec 32 := Scalar.muli v6 c1_i32_143
  let v156 : BitVec 32 := Scalar.addi v154 v155
  v156.toNat
def k0_dev9 (d0 : Dev nD) : Nat :=
  let c0_i32_165 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_164 : BitVec 32 := 2#32
  let v177 : BitVec 32 := Scalar.muli v7 c2_i32_164
  let v178 : BitVec 32 := Scalar.addi c0_i32_165 v177
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v179 : BitVec 32 := Scalar.muli v5 c1_i32_166
  let v180 : BitVec 32 := Scalar.addi v178 v179
  v180.toNat
@[reducible] def k0_t10_loop : Scf.Loop 32 :=
  let c0_i32_169 : BitVec 32 := 0#32
  let c64_i32_170 : BitVec 32 := 64#32
  let v187 : BitVec 32 := Scalar.addi c0_i32_169 c64_i32_170
  let c1_i32_171 : BitVec 32 := 1#32
  ⟨c0_i32_169, v187, c1_i32_171⟩
def k0_off18 (k0_t10 : Fin k0_t10_loop.trips) : Fin 1 → Nat :=
  let c320_i32_511 : BitVec 32 := 320#32
  let c0_i32_169 : BitVec 32 := 0#32
  let c1_i32_171 : BitVec 32 := 1#32
  let arg11 : BitVec 32 := Scf.iv c0_i32_169 c1_i32_171 k0_t10
  let v530 : BitVec 32 := Scalar.addi c320_i32_511 arg11
  let v531 : Index := Scalar.indexCast v530
  ![v531.toNat]
def k0_off19 (k0_t10 : Fin k0_t10_loop.trips) : Fin 2 → Nat :=
  let c320_i32_512 : BitVec 32 := 320#32
  let c0_i32_169 : BitVec 32 := 0#32
  let c1_i32_171 : BitVec 32 := 1#32
  let arg11 : BitVec 32 := Scf.iv c0_i32_169 c1_i32_171 k0_t10
  let v533 : BitVec 32 := Scalar.addi c320_i32_512 arg11
  let c0_i32_514 : BitVec 32 := 0#32
  ![v533.toNat, 0]
def k0_off20 (v532 : BitVec 32) : Fin 2 → Nat :=
  let c0_i32_515 : BitVec 32 := 0#32
  ![v532.toNat, 0]

def k0_chk6 (v532 : BitVec 32) : Prop :=
  (∀ a, (k0_off20 v532) a + S1x1024.size a ≤ S8192x1024.size a)
theorem k0_off20_inb : ∀ (v532 : BitVec 32) (k0_hw6 : k0_chk6 v532), ∀ a, (k0_off20 v532) a + S1x1024.size a ≤ S8192x1024.size a := fun v532 k0_hw6 => k0_hw6

@[reducible] def k0_t11_loop : Scf.Loop 32 :=
  let c0_i32_173 : BitVec 32 := 0#32
  let c64_i32_174 : BitVec 32 := 64#32
  let v188 : BitVec 32 := Scalar.addi c0_i32_173 c64_i32_174
  let c1_i32_175 : BitVec 32 := 1#32
  ⟨c0_i32_173, v188, c1_i32_175⟩
def k0_dev10 (d0 : Dev nD) : Nat :=
  let c0_i32_185 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_184 : BitVec 32 := 2#32
  let v201 : BitVec 32 := Scalar.muli v2 c2_i32_184
  let v202 : BitVec 32 := Scalar.addi c0_i32_185 v201
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_186 : BitVec 32 := 1#32
  let v203 : BitVec 32 := Scalar.muli v6 c1_i32_186
  let v204 : BitVec 32 := Scalar.addi v202 v203
  v204.toNat
def k0_dev11 (d0 : Dev nD) : Nat :=
  let c0_i32_208 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_207 : BitVec 32 := 2#32
  let v225 : BitVec 32 := Scalar.muli v7 c2_i32_207
  let v226 : BitVec 32 := Scalar.addi c0_i32_208 v225
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_209 : BitVec 32 := 1#32
  let v227 : BitVec 32 := Scalar.muli v5 c1_i32_209
  let v228 : BitVec 32 := Scalar.addi v226 v227
  v228.toNat
@[reducible] def k0_t12_loop : Scf.Loop 32 :=
  let c0_i32_212 : BitVec 32 := 0#32
  let c64_i32_213 : BitVec 32 := 64#32
  let v235 : BitVec 32 := Scalar.addi c0_i32_212 c64_i32_213
  let c1_i32_214 : BitVec 32 := 1#32
  ⟨c0_i32_212, v235, c1_i32_214⟩
def k0_off21 (k0_t12 : Fin k0_t12_loop.trips) : Fin 1 → Nat :=
  let c384_i32_511 : BitVec 32 := 384#32
  let c0_i32_212 : BitVec 32 := 0#32
  let c1_i32_214 : BitVec 32 := 1#32
  let arg11 : BitVec 32 := Scf.iv c0_i32_212 c1_i32_214 k0_t12
  let v530 : BitVec 32 := Scalar.addi c384_i32_511 arg11
  let v531 : Index := Scalar.indexCast v530
  ![v531.toNat]
def k0_off22 (k0_t12 : Fin k0_t12_loop.trips) : Fin 2 → Nat :=
  let c384_i32_512 : BitVec 32 := 384#32
  let c0_i32_212 : BitVec 32 := 0#32
  let c1_i32_214 : BitVec 32 := 1#32
  let arg11 : BitVec 32 := Scf.iv c0_i32_212 c1_i32_214 k0_t12
  let v533 : BitVec 32 := Scalar.addi c384_i32_512 arg11
  let c0_i32_514 : BitVec 32 := 0#32
  ![v533.toNat, 0]
def k0_off23 (v532 : BitVec 32) : Fin 2 → Nat :=
  let c0_i32_515 : BitVec 32 := 0#32
  ![v532.toNat, 0]

def k0_chk7 (v532 : BitVec 32) : Prop :=
  (∀ a, (k0_off23 v532) a + S1x1024.size a ≤ S8192x1024.size a)
theorem k0_off23_inb : ∀ (v532 : BitVec 32) (k0_hw7 : k0_chk7 v532), ∀ a, (k0_off23 v532) a + S1x1024.size a ≤ S8192x1024.size a := fun v532 k0_hw7 => k0_hw7

@[reducible] def k0_t13_loop : Scf.Loop 32 :=
  let c0_i32_216 : BitVec 32 := 0#32
  let c64_i32_217 : BitVec 32 := 64#32
  let v236 : BitVec 32 := Scalar.addi c0_i32_216 c64_i32_217
  let c1_i32_218 : BitVec 32 := 1#32
  ⟨c0_i32_216, v236, c1_i32_218⟩
def k0_dev12 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v249 : BitVec 32 := Scalar.muli v2 c2_i32_227
  let v250 : BitVec 32 := Scalar.addi c0_i32_228 v249
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_229 : BitVec 32 := 1#32
  let v251 : BitVec 32 := Scalar.muli v6 c1_i32_229
  let v252 : BitVec 32 := Scalar.addi v250 v251
  v252.toNat
def k0_dev13 (d0 : Dev nD) : Nat :=
  let c0_i32_251 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_250 : BitVec 32 := 2#32
  let v273 : BitVec 32 := Scalar.muli v7 c2_i32_250
  let v274 : BitVec 32 := Scalar.addi c0_i32_251 v273
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v275 : BitVec 32 := Scalar.muli v5 c1_i32_252
  let v276 : BitVec 32 := Scalar.addi v274 v275
  v276.toNat
@[reducible] def k0_t14_loop : Scf.Loop 32 :=
  let c0_i32_255 : BitVec 32 := 0#32
  let c64_i32_256 : BitVec 32 := 64#32
  let v283 : BitVec 32 := Scalar.addi c0_i32_255 c64_i32_256
  let c1_i32_257 : BitVec 32 := 1#32
  ⟨c0_i32_255, v283, c1_i32_257⟩
def k0_off24 (k0_t14 : Fin k0_t14_loop.trips) : Fin 1 → Nat :=
  let c448_i32_511 : BitVec 32 := 448#32
  let c0_i32_255 : BitVec 32 := 0#32
  let c1_i32_257 : BitVec 32 := 1#32
  let arg11 : BitVec 32 := Scf.iv c0_i32_255 c1_i32_257 k0_t14
  let v530 : BitVec 32 := Scalar.addi c448_i32_511 arg11
  let v531 : Index := Scalar.indexCast v530
  ![v531.toNat]
def k0_off25 (k0_t14 : Fin k0_t14_loop.trips) : Fin 2 → Nat :=
  let c448_i32_512 : BitVec 32 := 448#32
  let c0_i32_255 : BitVec 32 := 0#32
  let c1_i32_257 : BitVec 32 := 1#32
  let arg11 : BitVec 32 := Scf.iv c0_i32_255 c1_i32_257 k0_t14
  let v533 : BitVec 32 := Scalar.addi c448_i32_512 arg11
  let c0_i32_514 : BitVec 32 := 0#32
  ![v533.toNat, 0]
def k0_off26 (v532 : BitVec 32) : Fin 2 → Nat :=
  let c0_i32_515 : BitVec 32 := 0#32
  ![v532.toNat, 0]

def k0_chk8 (v532 : BitVec 32) : Prop :=
  (∀ a, (k0_off26 v532) a + S1x1024.size a ≤ S8192x1024.size a)
theorem k0_off26_inb : ∀ (v532 : BitVec 32) (k0_hw8 : k0_chk8 v532), ∀ a, (k0_off26 v532) a + S1x1024.size a ≤ S8192x1024.size a := fun v532 k0_hw8 => k0_hw8

@[reducible] def k0_t15_loop : Scf.Loop 32 :=
  let c0_i32_259 : BitVec 32 := 0#32
  let c64_i32_260 : BitVec 32 := 64#32
  let v284 : BitVec 32 := Scalar.addi c0_i32_259 c64_i32_260
  let c1_i32_261 : BitVec 32 := 1#32
  ⟨c0_i32_259, v284, c1_i32_261⟩
def k0_dev14 (d0 : Dev nD) : Nat :=
  let c0_i32_271 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_270 : BitVec 32 := 2#32
  let v297 : BitVec 32 := Scalar.muli v2 c2_i32_270
  let v298 : BitVec 32 := Scalar.addi c0_i32_271 v297
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_272 : BitVec 32 := 1#32
  let v299 : BitVec 32 := Scalar.muli v6 c1_i32_272
  let v300 : BitVec 32 := Scalar.addi v298 v299
  v300.toNat
def k0_dev15 (d0 : Dev nD) : Nat :=
  let c0_i32_294 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_293 : BitVec 32 := 2#32
  let v321 : BitVec 32 := Scalar.muli v7 c2_i32_293
  let v322 : BitVec 32 := Scalar.addi c0_i32_294 v321
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_295 : BitVec 32 := 1#32
  let v323 : BitVec 32 := Scalar.muli v5 c1_i32_295
  let v324 : BitVec 32 := Scalar.addi v322 v323
  v324.toNat
@[reducible] def k0_t16_loop : Scf.Loop 32 :=
  let c0_i32_298 : BitVec 32 := 0#32
  let c64_i32_299 : BitVec 32 := 64#32
  let v331 : BitVec 32 := Scalar.addi c0_i32_298 c64_i32_299
  let c1_i32_300 : BitVec 32 := 1#32
  ⟨c0_i32_298, v331, c1_i32_300⟩
def k0_dev16 (d0 : Dev nD) : Nat :=
  let c0_i32_310 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_309 : BitVec 32 := 2#32
  let v344 : BitVec 32 := Scalar.muli v2 c2_i32_309
  let v345 : BitVec 32 := Scalar.addi c0_i32_310 v344
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_311 : BitVec 32 := 1#32
  let v346 : BitVec 32 := Scalar.muli v6 c1_i32_311
  let v347 : BitVec 32 := Scalar.addi v345 v346
  v347.toNat
def k0_dev17 (d0 : Dev nD) : Nat :=
  let c0_i32_333 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_332 : BitVec 32 := 2#32
  let v368 : BitVec 32 := Scalar.muli v7 c2_i32_332
  let v369 : BitVec 32 := Scalar.addi c0_i32_333 v368
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_334 : BitVec 32 := 1#32
  let v370 : BitVec 32 := Scalar.muli v5 c1_i32_334
  let v371 : BitVec 32 := Scalar.addi v369 v370
  v371.toNat
def k0_dev18 (d0 : Dev nD) : Nat :=
  let c0_i32_355 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_354 : BitVec 32 := 2#32
  let v392 : BitVec 32 := Scalar.muli v7 c2_i32_354
  let v393 : BitVec 32 := Scalar.addi c0_i32_355 v392
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_356 : BitVec 32 := 1#32
  let v394 : BitVec 32 := Scalar.muli v5 c1_i32_356
  let v395 : BitVec 32 := Scalar.addi v393 v394
  v395.toNat
abbrev stage0_0 : Fin 1 → Memref sig .tc .smem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.KernelIdeal.Steps.lean ====
/-
The kernel's body written chunk by chunk.

Each device walks through eight chunks of 64 rows.  The printed body spells every chunk out; here a step of a chunk is
one program with the chunk's number `k` as a variable, and `body_eq` says that the printed body, run on device `c`, is
the sequence of those steps.  Everything proved about a step is then proved once.
-/
module

public import proofs.«01_k».proof.Proof.Gen.KernelIdeal.Skeleton
public import proofs.«01_k».proof.Proof.Gen.KernelIdeal.Points
public import Idealize.ShloMosaic.Lib.Tactic

@[expose] public section

set_option synthInstance.maxSize 4096

noncomputable section

namespace Cert.KernelIdeal.Run

open Idealize.ShloMosaic Idealize.SL.Sem Cert.KernelIdeal.Gen

variable {F : FTy → Type} [FloatOps F]

/-! ## The mesh -/

/-- The device holding the other half of the vocabulary for the same tokens. -/
def yn (c : Dev nD) : Dev nD := ⟨k0_dev1 c, k0_dev1_lt c⟩
/-- The device holding the same half of the vocabulary for the other tokens. -/
def xn (c : Dev nD) : Dev nD := ⟨k0_dev2 c, k0_dev2_lt c⟩

theorem yn_yn (c : Dev nD) : yn (yn c) = c := by revert c; decide
theorem xn_xn (c : Dev nD) : xn (xn c) = c := by revert c; decide
theorem yn_xn (c : Dev nD) : yn (xn c) = xn (yn c) := by revert c; decide
theorem yn_half (c : Dev nD) : (yn c).val / 2 = c.val / 2 := by revert c; decide
theorem xn_half (c : Dev nD) : (xn c).val / 2 = 1 - c.val / 2 := by revert c; decide

/-! ## The buffers and the semaphores a step names -/

abbrev safeM : Memref sig .tc .smem S512 .i32 := Memref.whole cc0_stg0_0
abbrev maskM : Memref sig .tc .vmem S512x1 .f32 := Memref.whole cc0_stg1_0
abbrev embM : Memref sig .tc .hbm S8192x1024 .f32 := Memref.whole main_arg1
abbrev outM : Memref sig .tc .vmem S1024x1024 .f32 := Memref.whole cc0_stg2_0
abbrev gathM : Memref sig .tc .vmem S512x1024 .f32 := Memref.whole cc0_scratch0
abbrev commM : Memref sig .tc .vmem S512x1024 .f32 := Memref.whole cc0_scratch1

theorem inbW (k : Fin 8) : ∀ a, (![64 * k.val, 0] : Fin 2 → Nat) a + S64x1024.size a ≤ S512x1024.size a := by revert k; decide
theorem inbM (k : Fin 8) : ∀ a, (![64 * k.val, 0] : Fin 2 → Nat) a + S64x1.size a ≤ S512x1.size a := by revert k; decide
theorem inbS (k : Fin 8) : ∀ a, (![k.val] : Fin 1 → Nat) a + S1.size a ≤ S8.size a := by revert k; decide

/-- Chunk `k`'s rows of a buffer of 512 rows, of the mask, and of the result's half that device `c` computes (the
    result's rows are named twice: as a load or a store computes them and as a copy does). -/
abbrev rowsR (k : Fin 8) : Rect S512x1024 := Rect.unit (s := S512x1024) ![64 * k.val, 0] S64x1024.size (inbW k)
abbrev maskR (k : Fin 8) : Rect S512x1 := Rect.unit (s := S512x1) ![64 * k.val, 0] S64x1.size (inbM k)
abbrev outR (c : Dev nD) (k : Fin 8) : Rect S1024x1024 :=
  Rect.unit (s := S1024x1024) (k0_off10 c (BitVec.ofNat 32 (64 * k.val))) S64x1024.size (k0_off10_inb c k)
abbrev outR' (c : Dev nD) (k : Fin 8) : Rect S1024x1024 :=
  Rect.unit (s := S1024x1024) (k0_off11 c (BitVec.ofNat 32 (64 * k.val))) S64x1024.size (k0_off11_inb c k)

abbrev gathC (k : Fin 8) : Memref sig .tc .vmem S64x1024 .f32 := gathM.slice (rowsR k) (fun _ => rfl)
abbrev commC (k : Fin 8) : Memref sig .tc .vmem S64x1024 .f32 := commM.slice (rowsR k) (fun _ => rfl)
abbrev outC (c : Dev nD) (k : Fin 8) : Memref sig .tc .vmem S64x1024 .f32 := outM.slice (outR' c k) (fun _ => rfl)

/-- Chunk `k`'s semaphore of an array of eight. -/
abbrev semAt (a : DmaSems sig S8) (k : Fin 8) : DmaSem sig :=
  ((a.slice (Rect.unit (s := S8) ![k.val] S1.size (inbS k))).squeeze S_ squeezes_S1_S_).sem

abbrev gSem (k : Fin 8) : DmaSem sig := semAt cc0_scratch2 k
abbrev ysSem (k : Fin 8) : DmaSem sig := semAt cc0_scratch3 k
abbrev yrSem (k : Fin 8) : DmaSem sig := semAt cc0_scratch4 k
abbrev xsSem (k : Fin 8) : DmaSem sig := semAt cc0_scratch5 k
abbrev xrSem (k : Fin 8) : DmaSem sig := semAt cc0_scratch6 k
abbrev barS : Sem sig := (SemArray.scalar (sig.barrier 0 rfl) : Sems sig S_).sem

/-! ## The steps -/

/-- Where trip `i` of chunk `k`'s gather reads its row number, and where it puts the row. -/
def offS (k : Fin 8) (i : Fin k0_t1_loop.trips) : Fin 1 → Nat :=
  ![(Scalar.indexCast (Scalar.addi (BitVec.ofNat 32 (64 * k.val)) (Scf.iv (0#32) (1#32) i)) : Index).toNat]
def offG (k : Fin 8) (i : Fin k0_t1_loop.trips) : Fin 2 → Nat :=
  ![(Scalar.addi (BitVec.ofNat 32 (64 * k.val)) (Scf.iv (0#32) (1#32) i)).toNat, 0]

theorem offS_eq : ∀ (k : Fin 8) (i : Fin k0_t1_loop.trips), offS k i = ![64 * k.val + i.val] := by decide +kernel
theorem offG_eq : ∀ (k : Fin 8) (i : Fin k0_t1_loop.trips), offG k i = ![64 * k.val + i.val, 0] := by decide +kernel
theorem offS_inb (k : Fin 8) (i : Fin k0_t1_loop.trips) : ∀ a, (offS k i) a + S1.size a ≤ S512.size a := by
  revert k i; decide +kernel
theorem offG_inb (k : Fin 8) (i : Fin k0_t1_loop.trips) : ∀ a, (offG k i) a + S1x1024.size a ≤ S512x1024.size a := by
  revert k i; decide +kernel

/-- A program of one device's core. -/
abbrev CProg (F : FTy → Type) : Type 1 := Prog (TpuEff nD τ sig (Elt F) Λ₀ .tc) PUnit

/-- The copy of one table row into row `i` of chunk `k`, not waited for. -/
def issueTrip (k : Fin 8) (i : Fin k0_t1_loop.trips) (_ : Unit) : CProg F := do
  let v : Elt F .i32 ← smemLoad safeM (Rect.unit (s := S512) (offS k i) S1.size (offS_inb k i)) numel1_S1 rfl
  have hw : k0_chk1 v := (← Prog.lift (TpuEff.assume (k0_chk1 v) (k0_chk1.dec v))).down
  Prog.lift (.enqueueDma (embM.slice (Rect.unit (s := S8192x1024) (k0_off3 v) S1x1024.size (k0_off3_inb v hw)) (fun _ => rfl))
    (.here (gathM.slice (Rect.unit (s := S512x1024) (offG k i) S1x1024.size (offG_inb k i)) (fun _ => rfl)))
    (.dma (gSem k)) (View.wordExact_bits rfl) (View.wordExact_bits rfl) ⟨Or.inl rfl, trivial⟩)
  pure ⟨⟩
/-- The wait for one row of chunk `k`. -/
def waitTrip (k : Fin 8) (i : Fin k0_t1_loop.trips) (_ : Unit) : CProg F := do
  Prog.lift (.waitDma2 (gSem k) (embM.slice (Rect.unit (s := S8192x1024) ![0, 0] S1x1024.size inb_S8192x1024_S1x1024_0_0) (fun _ => rfl))
    (gathM.slice (Rect.unit (s := S512x1024) ![0, 0] S1x1024.size inb_S512x1024_S1x1024_0_0) (fun _ => rfl))
    (View.wordExact_bits rfl) (View.wordExact_bits rfl))
  pure ⟨⟩
/-- Chunk `k`'s gather, started; and waited for. -/
def issue (k : Fin 8) : CProg F := Scf.Loop.for k0_t1_loop k0_t1_ok ⟨⟩ (issueTrip (F := F) k)
def await (k : Fin 8) : CProg F := Scf.Loop.for k0_t1_loop k0_t1_ok ⟨⟩ (waitTrip (F := F) k)

/-- The gathered rows with those of tokens outside this device's part of the vocabulary made zero. -/
abbrev maskPay (mk : Vec F S64x1 .f32) (g : Vec F S64x1024 .f32) : FVec F S64x1024 .f32 := k0_pay6 mk g

def maskStep (k : Fin 8) : CProg F := do
  let mk : Vec F S64x1 .f32 ← Prog.lift (.load maskM (maskR k).toLoadRect (View.loadsAt_vmem h_S64x1))
  let g : Vec F S64x1024 .f32 ← Prog.lift (.load gathM (rowsR k).toLoadRect (View.loadsAt_vmem h_S64x1024))
  let _ : Vec F S64x1024 .f32 ← Prog.lift (.load gathM (rowsR k).toLoadRect (View.loadsAt_vmem h_S64x1024))
  Prog.lift (.store gathM (rowsR k) (maskPay mk g) Finset.univ (View.stores_vmem_bits_univ h_S64x1024 rfl) (.inl rfl))
/-- Chunk `k` sent to the device with the other half of the vocabulary. -/
def sendY (c : Dev nD) (k : Fin 8) : CProg F :=
  Prog.lift (.enqueueDma (gathC k) (.remote (Dev.tc (yn c)) (commC k) (.dma (ysSem k))) (.dma (yrSem k))
    (View.wordExact_bits rfl) (View.wordExact_bits rfl) ⟨⟨rfl, Or.inl rfl⟩, trivial⟩)
/-- The partner's chunk `k` awaited, and the sum of the two put into the result. -/
def procStep (c : Dev nD) (k : Fin 8) : CProg F := do
  Prog.lift (.waitDma2 (yrSem k) (gathC k) (commC k) (View.wordExact_bits rfl) (View.wordExact_bits rfl))
  let a : Vec F S64x1024 .f32 ← Prog.lift (.load gathM (rowsR k).toLoadRect (View.loadsAt_vmem h_S64x1024))
  let b : Vec F S64x1024 .f32 ← Prog.lift (.load commM (rowsR k).toLoadRect (View.loadsAt_vmem h_S64x1024))
  let _ : Vec F S64x1024 .f32 ← Prog.lift (.load outM (outR c k).toLoadRect (View.loadsAt_vmem h_S64x1024))
  Prog.lift (.store outM (outR c k) (k0_pay5 a b) Finset.univ (View.stores_vmem_bits_univ h_S64x1024 rfl) (.inl rfl))
/-- Chunk `k` of the result sent to the device with the other tokens. -/
def sendX (c : Dev nD) (k : Fin 8) : CProg F :=
  Prog.lift (.enqueueDma (outC c k) (.remote (Dev.tc (xn c)) (outC c k) (.dma (xsSem k))) (.dma (xrSem k))
    (View.wordExact_bits rfl) (View.wordExact_bits rfl) ⟨⟨rfl, Or.inl rfl⟩, trivial⟩)
/-- Chunk `k`'s two sends and its arrival awaited. -/
def finStep (c : Dev nD) (k : Fin 8) : CProg F := do
  Prog.lift (.waitDma2 (ysSem k) (commC k) (gathC k) (View.wordExact_bits rfl) (View.wordExact_bits rfl))
  Prog.lift (.waitDma2 (xsSem k) (outC c k) (outC c k) (View.wordExact_bits rfl) (View.wordExact_bits rfl))
  Prog.lift (.waitDma2 (xrSem k) (outC c k) (outC c k) (View.wordExact_bits rfl) (View.wordExact_bits rfl))
/-- The meeting of each device with its two partners before anything is sent. -/
def meet (c : Dev nD) : CProg F := do
  semSignalWord (yn c) barS 1#32
  semSignalWord (xn c) barS 1#32
  semWaitWord barS 2#32

/-- One chunk's gather awaited, masked and sent. -/
def front (c : Dev nD) (k : Fin 8) : CProg F := do
  await k
  maskStep k
  sendY c k
/-- One chunk of the result made and sent. -/
def back (c : Dev nD) (k : Fin 8) : CProg F := do
  procStep c k
  sendX c k

/-- The body on device `c`. -/
def whole (c : Dev nD) : CProg F := do
  meet c
  issue 0
  issue 1
  front c 0
  issue 2
  front c 1
  back c 0
  issue 3
  front c 2
  back c 1
  issue 4
  front c 3
  back c 2
  issue 5
  front c 4
  back c 3
  issue 6
  front c 5
  back c 4
  issue 7
  front c 6
  back c 5
  front c 7
  back c 6
  back c 7
  finStep c 0
  finStep c 1
  finStep c 2
  finStep c 3
  finStep c 4
  finStep c 5
  finStep c 6
  finStep c 7

/-! ## The printed body is that sequence -/

theorem body_eq (t : Fin cfg0.N) : bodyAt0 (F := F) t = Prog.op .deviceId (fun c => whole c) := by
  rw [bodyAt0, cc0_body_eq_skeleton]
  unfold cc0_body_skel
  simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton]
  simp only [k0_part1_skel, k0_part2_skel, k0_part3_skel, k0_part4_skel, k0_part5_skel, k0_part6_skel, k0_part7_skel,
      k0_part8_skel, k0_part9_skel, k0_part10_skel, k0_part11_skel, k0_part12_skel, k0_part13_skel, k0_part14_skel,
      k0_part15_skel, k0_part16_skel, k0_part17_skel, k0_part18_skel, k0_part19_skel,
      Prog.bind_assoc, Prog.bind_lift, Prog.bind_op, Prog.pure_eq_ret, Prog.bind_ret]
  simp only [whole, meet, issue, front, back, await, maskStep, sendY, procStep, sendX, finStep,
      Prog.bind_assoc, Prog.bind_lift, Prog.bind_op, Prog.pure_eq_ret, Prog.bind_ret]
  rfl

end Cert.KernelIdeal.Run

end
-- ==== Proof.KernelIdeal.Contents.lean ====
/-
What the buffers hold.

`Inputs` is what a device's kernel is called with: the row numbers it gathers (each a row of its part of the table),
the mask and its part of the table.  From them: the gathered rows, the same with the rows of other devices' tokens made
zero, the sum of those of a device and its partner, and the result.  The lemmas say what the steps' loads, stores and
copies make of them, one chunk at a time.
-/
module

public import proofs.«01_k».proof.Proof.KernelIdeal.Steps
public import Idealize.ShloMosaic.Lib.Pointwise.Index
public import Idealize.ShloMosaic.Lib.Pipeline.Value

@[expose] public section

set_option synthInstance.maxSize 4096

noncomputable section

namespace Cert.KernelIdeal.Run

open Idealize.ShloMosaic Idealize.ShloMosaic.TcCoe Idealize.SL.Sem Cert.KernelIdeal.Gen

variable {F : FTy → Type} [FloatOps F]

/-- What each device's kernel is called with. -/
structure Inputs (F : FTy → Type) where
  safe : Dev nD → S512.Idx → Elt F .i32
  mask : Dev nD → S512x1.Idx → Elt F .f32
  emb : Dev nD → S8192x1024.Idx → Elt F .f32
  /-- Every row number is a row of the device's part of the table. -/
  ok : ∀ c i, BitVec.toNat (safe c i) < 8192

variable (I : Inputs F)

/-- The gathered rows. -/
def Gat (c : Dev nD) : S512x1024.Idx → Elt F .f32 :=
  fun i => I.emb c (ix2 (⟨BitVec.toNat (I.safe c (ix1 (i 0))), I.ok c _⟩ : Fin 8192) (i 1))

/-- A row's element kept where the row's mask is not zero, and zero where it is. -/
def keep (a b : Elt F .f32) : Elt F .f32 :=
  Scalar.select (FloatOps.cmpf (F := F) (φ := .f32) .one a (FloatOps.ofBits .f32 0#32)) b (FloatOps.ofBits (F := F) .f32 0#32)

/-- The gathered rows masked. -/
def Msk (c : Dev nD) : S512x1024.Idx → Elt F .f32 :=
  fun i => keep (I.mask c (ix2 (i 0) (0 : Fin 1))) (Gat I c i)

/-- A device's own half of the result: its masked rows and its partner's, added. -/
def Half (c : Dev nD) : S512x1024.Idx → Elt F .f32 :=
  fun i => FloatOps.addf (F := F) (φ := .f32) (Msk I c i) (Msk I (yn c) i)

/-- The result on device `c`: its own half, and the half of the device with the other tokens. -/
def Res (c : Dev nD) : S1024x1024.Idx → Elt F .f32 :=
  fun i =>
    let j : S512x1024.Idx := ix2 (⟨(i 0).val % 512, Nat.mod_lt _ (by decide)⟩ : Fin 512) (i 1)
    if (i 0).val / 512 = c.val / 2 then Half I c j else Half I (xn c) j

/-! ## Rows -/

theorem rows_0 (k : Fin 8) (j : S64x1024.Idx) : (((rowsR k).emb j) 0).val = 64 * k.val + (j 0).val := by
  rw [Rect.emb_apply]; show 64 * k.val + 1 * (j 0).val = _; omega
theorem rows_1 (k : Fin 8) (j : S64x1024.Idx) : (((rowsR k).emb j) 1).val = (j 1).val := by
  rw [Rect.emb_apply]; show 0 + 1 * (j 1).val = _; omega
theorem maskrows_0 (k : Fin 8) (j : S64x1.Idx) : (((maskR k).emb j) 0).val = 64 * k.val + (j 0).val := by
  rw [Rect.emb_apply]; show 64 * k.val + 1 * (j 0).val = _; omega

theorem out_off (c : Dev nD) (k : Fin 8) : k0_off10 c (BitVec.ofNat 32 (64 * k.val)) = ![512 * (c.val / 2) + 64 * k.val, 0] :=
  k0_off10_eq c k
theorem out_off' (c : Dev nD) (k : Fin 8) : k0_off11 c (BitVec.ofNat 32 (64 * k.val)) = ![512 * (c.val / 2) + 64 * k.val, 0] :=
  k0_off11_eq c k

theorem outR_eq (c : Dev nD) (k : Fin 8) : outR c k = outR' c k := by
  have e : k0_off10 c (BitVec.ofNat 32 (64 * k.val)) = k0_off11 c (BitVec.ofNat 32 (64 * k.val)) := (out_off c k).trans (out_off' c k).symm
  unfold outR outR'
  congr 1

theorem outR_emb (c : Dev nD) (k : Fin 8) (j : S64x1024.Idx) : (outR c k).emb j = (outR' c k).emb j := by
  funext a
  refine Fin.ext ?_
  rw [Rect.emb_apply, Rect.emb_apply]
  show k0_off10 c (BitVec.ofNat 32 (64 * k.val)) a + 1 * (j a).val = k0_off11 c (BitVec.ofNat 32 (64 * k.val)) a + 1 * (j a).val
  rw [out_off, out_off']

theorem out_0 (c : Dev nD) (k : Fin 8) (j : S64x1024.Idx) :
    (((outR' c k).emb j) 0).val = 512 * (c.val / 2) + 64 * k.val + (j 0).val := by
  rw [Rect.emb_apply]
  show k0_off11 c (BitVec.ofNat 32 (64 * k.val)) 0 + 1 * (j 0).val = _
  rw [out_off']
  show 512 * (c.val / 2) + 64 * k.val + 1 * (j 0).val = _; omega
theorem out_1 (c : Dev nD) (k : Fin 8) (j : S64x1024.Idx) : (((outR' c k).emb j) 1).val = (j 1).val := by
  rw [Rect.emb_apply]
  show k0_off11 c (BitVec.ofNat 32 (64 * k.val)) 1 + 1 * (j 1).val = _
  rw [out_off']
  show 0 + 1 * (j 1).val = _; omega

/-! ## What the steps compute -/

/-- The masked payload, element by element. -/
theorem maskPay_apply (mk : Vec F S64x1 .f32) (g : Vec F S64x1024 .f32) (j : S64x1024.Idx) :
    maskPay mk g j = keep (mk (ix2 (j 0) (0 : Fin 1))) (g j) := by
  unfold maskPay k0_pay6 keep
  simp only [shapeCast_self]
  refine congrArg (fun b => Scalar.select b (g j) (FloatOps.ofBits (F := F) .f32 0#32)) ?_
  exact broadcastTo_apply _ broadcasts_S64x1_S64x1024 j (ix2 (j 0) (0 : Fin 1)) (by
    intro a; match a with | ⟨0, _⟩ => rfl | ⟨1, _⟩ => rfl)

theorem addPay_apply (a b : Vec F S64x1024 .f32) (j : S64x1024.Idx) :
    k0_pay5 a b j = FloatOps.addf (F := F) (φ := .f32) (a j) (b j) := rfl

/-! ## One chunk at a time -/

/-- A write through a view that puts there what the view reads of `g` leaves `g` on the view's elements. -/
theorem write_on_set {κ : Kind} {sp : Space} {s : Shape} {e : EltTy} (v : View sig κ sp s e)
    (fd g : v.ty.Contents (Elt F)) (w : s.Idx → Elt F e) (h : w = v.read (Elt F) g) :
    ∀ i ∈ v.set, v.write (Elt F) fd w Finset.univ i = g i := by
  intro i hi
  obtain ⟨j, -, rfl⟩ := Finset.mem_map.mp hi
  rw [View.write_emb_of_mem _ _ (Finset.mem_univ j), h, View.read_apply, cast_cast, cast_eq]

/-- The masked rows of a chunk are the mask's step on the gathered ones. -/
theorem mask_read (c : Dev nD) (k : Fin 8) :
    maskPay ((maskM.access (maskR k)).read (Elt F) (I.mask c)) ((gathM.access (rowsR k)).read (Elt F) (Gat I c))
      = (gathM.access (rowsR k)).read (Elt F) (Msk I c) := by
  funext j
  rw [maskPay_apply]
  show keep (I.mask c ((maskR k).emb (ix2 (j 0) (0 : Fin 1)))) (Gat I c ((rowsR k).emb j))
    = keep (I.mask c (ix2 (((rowsR k).emb j) 0) (0 : Fin 1))) (Gat I c ((rowsR k).emb j))
  refine congrArg (fun x => keep (I.mask c x) _) ?_
  funext a
  match a with
  | ⟨0, _⟩ => exact Fin.ext ((maskrows_0 k _).trans (rows_0 k j).symm)
  | ⟨1, _⟩ => exact Subsingleton.elim (α := Fin 1) _ _

/-- The result is the same on the device with the other tokens. -/
theorem Res_xn (c : Dev nD) : Res I (xn c) = Res I c := by
  funext i
  have hi : (i 0).val / 512 < 2 := by
    have h : (i 0).val < 1024 := (i 0).isLt
    omega
  have hx := xn_half c
  have hc : c.val / 2 < 2 := by have : c.val < 4 := c.isLt; omega
  unfold Res
  dsimp only
  rw [xn_xn, hx]
  by_cases h : (i 0).val / 512 = c.val / 2
  · rw [if_pos h, if_neg (by omega)]
  · rw [if_neg h, if_pos (by omega)]

/-- The result's chunk that device `c` computes. -/
theorem Res_own (c : Dev nD) (k : Fin 8) (j : S64x1024.Idx) :
    Res I c ((outR' c k).emb j) = Half I c ((rowsR k).emb j) := by
  have h0 := out_0 c k j
  have hj : (j 0).val < 64 := (j 0).isLt
  have hk := k.isLt
  unfold Res
  dsimp only
  rw [if_pos (by rw [h0]; omega)]
  refine congrArg (Half I c) ?_
  funext a
  match a with
  | ⟨0, _⟩ =>
    refine Fin.ext ?_
    show (((outR' c k).emb j) 0).val % 512 = (((rowsR k).emb j) 0).val
    rw [h0, rows_0]; omega
  | ⟨1, _⟩ => exact Fin.ext ((out_1 c k j).trans (rows_1 k j).symm)

theorem proc_read (c : Dev nD) (k : Fin 8) :
    k0_pay5 ((gathM.access (rowsR k)).read (Elt F) (Msk I c)) ((commM.access (rowsR k)).read (Elt F) (Msk I (yn c)))
      = (outM.access (outR c k)).read (Elt F) (Res I c) := by
  funext j
  exact (Res_own I c k j).symm.trans (congrArg (Res I c) (outR_emb c k j).symm)

/-- The row that trip `i` of chunk `k` copies. -/
theorem gather_read (c : Dev nD) (k : Fin 8) (i : Fin k0_t1_loop.trips) (v : Elt F .i32)
    (hv : v = I.safe c (ix1 (⟨64 * k.val + i.val, by have := k.isLt; have : i.val < 64 := i.isLt; omega⟩ : Fin 512)))
    (hw : k0_chk1 v) :
    (embM.slice (Rect.unit (s := S8192x1024) (k0_off3 v) S1x1024.size (k0_off3_inb v hw)) (fun _ => rfl)).view.read (Elt F) (I.emb c)
      = (gathM.slice (Rect.unit (s := S512x1024) (offG k i) S1x1024.size (offG_inb k i)) (fun _ => rfl)).view.read (Elt F) (Gat I c) := by
  funext j
  show I.emb c ((Rect.unit (s := S8192x1024) (k0_off3 v) S1x1024.size (k0_off3_inb v hw)).emb j)
    = Gat I c ((Rect.unit (s := S512x1024) (offG k i) S1x1024.size (offG_inb k i)).emb j)
  unfold Gat
  refine congrArg (I.emb c) ?_
  have j0 : (j 0).val = 0 := by have : (j 0).val < 1 := (j 0).isLt; omega
  funext a
  match a with
  | ⟨0, _⟩ =>
    refine Fin.ext ?_
    rw [Rect.emb_apply]
    show (k0_off3 v) 0 + 1 * (j 0).val = BitVec.toNat (I.safe c (ix1 ((Rect.unit (s := S512x1024) (offG k i) S1x1024.size (offG_inb k i)).emb j 0)))
    have e : (Rect.unit (s := S512x1024) (offG k i) S1x1024.size (offG_inb k i)).emb j 0
        = (⟨64 * k.val + i.val, by have := k.isLt; have : i.val < 64 := i.isLt; omega⟩ : Fin 512) := by
      refine Fin.ext ?_
      rw [Rect.emb_apply]
      show offG k i 0 + 1 * (j 0).val = _
      rw [offG_eq, j0]; rfl
    rw [e, ← hv, j0]
    rfl
  | ⟨1, _⟩ =>
    refine Fin.ext ?_
    rw [Rect.emb_apply]
    show (k0_off3 v) 1 + 1 * (j 1).val = ((Rect.unit (s := S512x1024) (offG k i) S1x1024.size (offG_inb k i)).emb j 1).val
    rw [Rect.emb_apply]
    show (k0_off3 v) 1 + 1 * (j 1).val = offG k i 1 + 1 * (j 1).val
    rw [offG_eq]
    rfl

/-- Every row number passes the check the copy makes. -/
theorem chk_ok {v : BitVec 32} (h : v.toNat < 8192) : k0_chk1 v := by
  intro a
  match a with
  | ⟨0, _⟩ => show v.toNat + 1 ≤ 8192; omega
  | ⟨1, _⟩ => show 0 + 1024 ≤ 1024; omega

end Cert.KernelIdeal.Run

end
-- ==== Proof.KernelIdeal.Protocol.lean ====
/-
How the devices talk.

Before anything is sent each device tells its two partners that it is ready, and with that hands each the buffer rows the
partner will write: its communication buffer to the partner with the other half of the vocabulary, the other half of
its result to the partner with the other tokens.  Each chunk then has four semaphores: the two of its send to the first
partner and the two of its send to the second.  A round schedule says what every one of these semaphores' increments
carries, contents included.
-/
module

public import proofs.«01_k».proof.Proof.KernelIdeal.Contents
public import Idealize.ShloMosaic.Lib.Rounds
public import Idealize.ShloMosaic.Lib.Batch
public import Idealize.ShloMosaic.Lib.ShareLeaves
public import Idealize.ShloMosaic.Lib.Pipeline.Regions
public import Idealize.ShloMosaic.Lib.Tactic

@[expose] public section

set_option synthInstance.maxSize 4096

noncomputable section

namespace Cert.KernelIdeal.Run

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's copy, the devices' protocol, and the counters of the gather's copies -/

abbrev UH : Type := URounds (GSem nD τ sig) Unit
abbrev UB : Type := URounds (GSem nD τ sig) Bool
abbrev UU : Type := UH × (UB × Counters)
abbrev M (F : FTy → Type) := MT nD τ sig Unit (Elt F) ℕ UU ℕ

abbrev EP : Emb UH (M F) := embL
/-- Where the devices' protocol lives. -/
def EB : Emb UB (M F) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance : (EB (F := F)).LandsIn (upEmb : UEmb _ (M F)) := by unfold EB; infer_instance

/-! ## Cells -/

/-- A chunk's four semaphores of the protocol. -/
abbrev rsem : Fin 4 → Fin 8 → SemLoc sig := fun
  | 0, k => .dma (ysSem k)
  | 1, k => .dma (yrSem k)
  | 2, k => .dma (xsSem k)
  | 3, k => .dma (xrSem k)

/-- Which of a chunk's four semaphores one is, and the chunk. -/
def slot : SemLoc sig → Option (Fin 4 × Fin 8)
  | .reg _ => none
  | .dma i =>
    if h : 11 ≤ i.val ∧ i.val < 43 then
      some (⟨(i.val - 11) / 8, by omega⟩, ⟨(i.val - 11) % 8, Nat.mod_lt _ (by decide)⟩)
    else none

theorem slot_rsem : ∀ a k, slot (rsem a k) = some (a, k) := by decide
theorem slot_bar : slot (.reg barS) = none := rfl
theorem slot_g : ∀ k, slot (.dma (gSem k)) = none := by decide
theorem rsem_ne_bar (a : Fin 4) (k : Fin 8) : rsem a k ≠ .reg barS := by
  intro h; have := slot_rsem a k; rw [h, slot_bar] at this; cases this
theorem rsem_inj : Function.Injective (fun x : Fin 4 × Fin 8 => rsem x.1 x.2) := by
  intro x y h
  have := congrArg slot h
  rw [slot_rsem, slot_rsem] at this
  exact Option.some.inj this

abbrev barCell (c : Dev nD) : GSem nD τ sig := ((c : Thread nD τ), .reg barS)
abbrev cell (a : Fin 4) (k : Fin 8) (c : Dev nD) : GSem nD τ sig := ((c : Thread nD τ), rsem a k)

/-- What one chunk's copy adds to its semaphores; what one row's does. -/
abbrev N : ℕ := (gathC 0).view.dmaCredit
theorem N_pos : 0 < N := View.dmaCredit_pos _ (by decide)

/-! ## Chunks in a device's hands -/

abbrev gPts (c : Dev nD) (k : Fin 8) (q : PosShare TreeShare) (f : S512x1024.Idx → Elt F .f32) : sProp (M F) :=
  (gathC k).view.loc (c : Thread nD τ) ↦[(gathC k).view.set]{q} f
abbrev mPts (c : Dev nD) (k : Fin 8) (f : S512x1024.Idx → Elt F .f32) : sProp (M F) :=
  (commC k).view.loc (c : Thread nD τ) ↦[(commC k).view.set]{fullShare} f
/-- The rows of device `c`'s result that hold chunk `k` of what device `d` computes. -/
abbrev oPts (c d : Dev nD) (k : Fin 8) (f : S1024x1024.Idx → Elt F .f32) : sProp (M F) :=
  (outC d k).view.loc (c : Thread nD τ) ↦[(outC d k).view.set]{fullShare} f

/-! ## The schedule -/

variable (I : Inputs F)

/-- What the signal of the partner with the other half of the vocabulary hands device `c`. -/
def barY (c : Dev nD) : sProp (M F) :=
  iprop((∃ f, bigSep Finset.univ fun k => mPts (yn c) k f) ∗ bigSep Finset.univ fun k => reached EB (cell 1 k (yn c)) 0)
/-- What the signal of the partner with the other tokens hands device `c`. -/
def barX (c : Dev nD) : sProp (M F) :=
  iprop((∃ f, bigSep Finset.univ fun k => oPts (xn c) c k f) ∗ bigSep Finset.univ fun k => reached EB (cell 3 k (xn c)) 0)
/-- What a chunk's copies hand device `c`: the shares of their sources back, and the rows that arrived. -/
def chunkPay : Fin 4 → Fin 8 → Dev nD → sProp (M F) := fun
  | 0, k, c => gPts c k fullShare.right (Msk I c)
  | 1, k, c => mPts c k (Msk I (yn c))
  | 2, k, c => oPts c c k (Res I c)
  | 3, k, c => oPts c (xn c) k (Res I c)

instance barY_storable (c : Dev nD) : BI.Storable (upEmb : UEmb _ (M F)) (barY c) := by unfold barY; infer_instance
instance barX_storable (c : Dev nD) : BI.Storable (upEmb : UEmb _ (M F)) (barX c) := by unfold barX; infer_instance
instance chunkPay_storable (a : Fin 4) (k : Fin 8) (c : Dev nD) :
    BI.Storable (upEmb : UEmb _ (M F)) (chunkPay I a k c) := by
  unfold chunkPay; split <;> infer_instance

/-- Everything happens in the first round.  The barrier's has two duties, one for each partner; every other cell's has
    one. -/
def Rd : Rounds.Schedule (GSem nD τ sig) Bool (M F) where
  duties g r :=
    if r = 0 ∧ g.1.2 = .tc then (if g.2 = .reg barS then {false, true} else if (slot g.2).isSome then {false} else ∅) else ∅
  unitless _ := False
  amount g _ _ := if g.2 = .reg barS then 1 else N
  payload g _ d :=
    if g.2 = .reg barS then (if d = true then barX g.1.1 else barY g.1.1)
    else (slot g.2).elim iprop(emp) fun ak => chunkPay I ak.1 ak.2 g.1.1
  amount_pos g _ _ _ := by
    by_cases h : g.2 = .reg barS
    · rw [if_pos h]; exact Nat.one_pos
    · rw [if_neg h]; exact N_pos

instance Rd_storable (g : GSem nD τ sig) (r : ℕ) (d : Bool) :
    BI.Storable (upEmb : UEmb _ (M F)) ((Rd I).payload g r d) := by
  show BI.Storable upEmb (if g.2 = .reg barS then (if d = true then barX g.1.1 else barY g.1.1)
    else (slot g.2).elim iprop(emp) fun ak => chunkPay I ak.1 ak.2 g.1.1)
  rcases slot g.2 with _ | ⟨a, k⟩
  · dsimp only [Option.elim]
    (repeat' split) <;> infer_instance
  · dsimp only [Option.elim]
    (repeat' split) <;> first | exact chunkPay_storable I a k g.1.1 | infer_instance

theorem duties_bar (c : Dev nD) : (Rd I).duties (barCell c) 0 = {false, true} := by
  dsimp only [Rd]; rw [if_pos ⟨rfl, rfl⟩, if_pos rfl]
theorem duties_cell (a : Fin 4) (k : Fin 8) (c : Dev nD) : (Rd I).duties (cell a k c) 0 = {false} := by
  dsimp only [Rd]; rw [if_pos ⟨rfl, rfl⟩, if_neg (rsem_ne_bar a k), if_pos (by rw [slot_rsem]; rfl)]
theorem duties_later (g : GSem nD τ sig) : ∀ r, 1 ≤ r → (Rd I).duties g r = ∅ :=
  fun r hr => by dsimp only [Rd]; rw [if_neg (fun h => by omega)]
theorem amount_bar (c : Dev nD) (d : Bool) : (Rd I).amount (barCell c) 0 d = 1 := by dsimp only [Rd]; exact if_pos rfl
theorem amount_cell (a : Fin 4) (k : Fin 8) (c : Dev nD) (d : Bool) : (Rd I).amount (cell a k c) 0 d = N := by
  dsimp only [Rd]; exact if_neg (rsem_ne_bar a k)
theorem expect_bar (c : Dev nD) : (Rd I).expect (barCell c) 0 = 2 := by
  unfold Schedule.expect Schedule.amountOf
  rw [duties_bar, Finset.sum_pair (by decide), amount_bar, amount_bar]
theorem expect_cell (a : Fin 4) (k : Fin 8) (c : Dev nD) : (Rd I).expect (cell a k c) 0 = N := by
  unfold Schedule.expect Schedule.amountOf; rw [duties_cell, Finset.sum_singleton, amount_cell]
theorem payload_barY (c : Dev nD) : (Rd I).payload (barCell c) 0 false = barY c := by
  dsimp only [Rd]; rw [if_pos rfl, if_neg (by decide)]
theorem payload_barX (c : Dev nD) : (Rd I).payload (barCell c) 0 true = barX c := by
  dsimp only [Rd]; rw [if_pos rfl, if_pos rfl]
theorem payload_cell (a : Fin 4) (k : Fin 8) (c : Dev nD) (d : Bool) : (Rd I).payload (cell a k c) 0 d = chunkPay I a k c := by
  dsimp only [Rd]; rw [if_neg (rsem_ne_bar a k), slot_rsem]; rfl
theorem rest_bar (c : Dev nD) :
    bigSep ((Rd I).duties (barCell c) 0 \ ∅) (fun u => (Rd I).payload (barCell c) 0 u) = iprop(barY c ∗ barX c) := by
  rw [Finset.sdiff_empty, duties_bar, bigSep_insert (by decide), bigSep_singleton, payload_barY, payload_barX]; rfl
theorem rest_cell (a : Fin 4) (k : Fin 8) (c : Dev nD) :
    bigSep ((Rd I).duties (cell a k c) 0 \ ∅) (fun u => (Rd I).payload (cell a k c) 0 u) = chunkPay I a k c := by
  rw [Finset.sdiff_empty, duties_cell, bigSep_singleton, payload_cell]

/-! ## What a device owes, and the order of the waits -/

/-- What device `c` owes its partners once it has sent chunks below `a` to the first and below `b` to the second. -/
def owed (a b : ℕ) (c : Dev nD) : CellTallies nD τ sig Unit :=
  (∑ j ∈ Finset.univ.filter (fun j : Fin 8 => a ≤ j.val), tallyAt (cell 1 j (yn c)) () N)
    + ∑ j ∈ Finset.univ.filter (fun j : Fin 8 => b ≤ j.val), tallyAt (cell 3 j (xn c)) () N

theorem from_succ (j : Fin 8) :
    Finset.univ.filter (fun i : Fin 8 => j.val ≤ i.val) = insert j (Finset.univ.filter (fun i : Fin 8 => j.val + 1 ≤ i.val)) := by
  revert j; decide

theorem owed_y (j : Fin 8) (b : ℕ) (c : Dev nD) :
    owed j.val b c = owed (j.val + 1) b c + tallyAt (cell 1 j (yn c)) () N := by
  unfold owed
  rw [from_succ j, Finset.sum_insert (by simp)]
  exact (congrArg (· + _) (add_comm _ _)).trans (add_right_comm _ _ _)
theorem owed_x (j : Fin 8) (a : ℕ) (c : Dev nD) :
    owed a j.val c = owed a (j.val + 1) c + tallyAt (cell 3 j (xn c)) () N := by
  unfold owed
  rw [from_succ j, Finset.sum_insert (by simp)]
  exact (congrArg (_ + ·) (add_comm _ _)).trans (add_assoc _ _ _).symm
theorem owed_none (c : Dev nD) : owed 8 8 c = 0 := by
  unfold owed
  rw [show Finset.univ.filter (fun i : Fin 8 => 8 ≤ i.val) = ∅ from by decide, Finset.sum_empty, Finset.sum_empty, add_zero]

/-- What device `c` owes at the start: a unit to each partner's barrier besides. -/
def O₀ (c : Dev nD) : CellTallies nD τ sig Unit :=
  owed 0 0 c + tallyAt (barCell (xn c)) () 1 + tallyAt (barCell (yn c)) () 1

/-- The cells that are waited for. -/
def L (g : GSem nD τ sig) : Finset Unit := if g.1.2 = .tc then {()} else ∅
/-- The order of the waits: the gather and the sends, the barrier, the first partner's chunks, the second's. -/
def lvS (s : SemLoc sig) : ℕ :=
  if s = .reg barS then 1
  else (slot s).elim 0 fun ak => if ak.1 = 1 then 2 + ak.2.val else if ak.1 = 3 then 20 + ak.2.val else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_bar : lvS (.reg barS) = 1 := if_pos rfl
theorem lvS_g (k : Fin 8) : lvS (.dma (gSem k)) = 0 := by revert k; decide
theorem lvS_yr (k : Fin 8) : lvS (rsem 1 k) = 2 + k.val := by revert k; decide
theorem lvS_xr (k : Fin 8) : lvS (rsem 3 k) = 20 + k.val := by revert k; decide

/-- What is still owed is owed to cells of the remaining chunks. -/
theorem owed_pos {a b : ℕ} {c : Dev nD} {g : GSem nD τ sig} {u : Unit} (h : 0 < owed a b c g u) :
    (∃ j : Fin 8, a ≤ j.val ∧ g = cell 1 j (yn c)) ∨ ∃ j : Fin 8, b ≤ j.val ∧ g = cell 3 j (xn c) := by
  unfold owed at h
  rw [Pi.add_apply, Finsupp.add_apply, Finset.sum_apply, Finset.sum_apply, Finsupp.finsetSum_apply, Finsupp.finsetSum_apply] at h
  by_contra hn
  rw [not_or] at hn
  have h1 : ∀ (s : Finset (Fin 8)) (cl : Fin 8 → GSem nD τ sig), (∀ j ∈ s, g ≠ cl j) →
      ∑ j ∈ s, (tallyAt (cl j) () N : CellTallies nD τ sig Unit) g u = 0 := by
    intro s cl hs
    refine Finset.sum_eq_zero fun j hj => ?_
    rw [tallyAt_apply, if_neg (fun e => hs j hj e.1)]
  rw [h1 _ _ (fun j hj e => hn.1 ⟨j, (Finset.mem_filter.mp hj).2, e⟩),
    h1 _ _ (fun j hj e => hn.2 ⟨j, (Finset.mem_filter.mp hj).2, e⟩)] at h
  exact absurd h (Nat.lt_irrefl 0)

/-- Owing only later chunks a device may wait for an earlier thing. -/
theorem mayWait_owed (c : Dev nD) (sm : SemLoc sig) (a b : ℕ) (h1 : lvS sm < 2 + a) (h2 : lvS sm < 20 + b) :
    (levAts L lv : sProp (M F)) ⊢ MayWait (c : Thread nD τ) sm () (owed a b c) :=
  MayOwe.of_cut (L := L) (lev := lv) (lvS sm)
    (fun p hp => by rw [Finset.mem_singleton.mp hp, L_tc]; exact Finset.mem_singleton_self _)
    (fun g u hg => by
      rcases owed_pos hg with ⟨j, -, rfl⟩ | ⟨j, -, rfl⟩ <;> rw [L_tc] <;> exact Finset.mem_singleton_self _)
    (fun p hp => by rw [Finset.mem_singleton.mp hp]; exact Nat.le_refl _)
    (fun g u hg => by
      rcases owed_pos hg with ⟨j, hj, rfl⟩ | ⟨j, hj, rfl⟩
      · show lvS sm < lvS (rsem 1 j); rw [lvS_yr]; omega
      · show lvS sm < lvS (rsem 3 j); rw [lvS_xr]; omega)

/-! ## The cells' invariants and tokens -/

def barEmb : Dev nD ↪ GSem nD τ sig := ⟨fun c => barCell c, fun _ _ h => congrArg (fun g : GSem nD τ sig => g.1.1) h⟩
def cellEmb : Dev nD × (Fin 4 × Fin 8) ↪ GSem nD τ sig :=
  ⟨fun x => cell x.2.1 x.2.2 x.1, fun _ _ h =>
    Prod.ext (congrArg (fun g : GSem nD τ sig => g.1.1) h) (rsem_inj (congrArg Prod.snd h))⟩
abbrev barCells : Finset (GSem nD τ sig) := Finset.univ.map barEmb
abbrev chunkCells : Finset (GSem nD τ sig) := Finset.univ.map cellEmb

theorem disjoint_cells : Disjoint (barCells : Finset (GSem nD τ sig)) chunkCells := by
  rw [Finset.disjoint_left]
  rintro g h₁ h₂
  obtain ⟨c, -, rfl⟩ := Finset.mem_map.mp h₁
  obtain ⟨x, -, h⟩ := Finset.mem_map.mp h₂
  exact rsem_ne_bar x.2.1 x.2.2 (congrArg Prod.snd h)

theorem bar_mem (c : Dev nD) : barCell c ∈ (barCells ∪ chunkCells : Finset (GSem nD τ sig)) :=
  Finset.mem_union_left _ (Finset.mem_map_of_mem barEmb (Finset.mem_univ c))
theorem cell_mem (a : Fin 4) (k : Fin 8) (c : Dev nD) : cell a k c ∈ (barCells ∪ chunkCells : Finset (GSem nD τ sig)) :=
  Finset.mem_union_right _ (Finset.mem_map_of_mem cellEmb (Finset.mem_univ (c, (a, k))))

/-- Every cell's invariant, and that every barrier is in its first round: what any device may use any number of times. -/
def recs (K : GSem nD τ sig → ℕ) : sProp (M F) :=
  iprop((bigSep (barCells ∪ chunkCells) fun g => cellInv EB (Rd I) (K g) g) ∗ bigSep barCells fun g => reached EB g 0)

instance recs_persistent (K : GSem nD τ sig → ℕ) : BI.Persistent (recs I K) := by unfold recs; infer_instance

theorem inv_at (K : GSem nD τ sig → ℕ) {g : GSem nD τ sig} (hg : g ∈ (barCells ∪ chunkCells : Finset (GSem nD τ sig))) :
    (bigSep (barCells ∪ chunkCells) fun g => cellInv EB (Rd I) (K g) g : sProp (M F)) ⊢ cellInv EB (Rd I) (K g) g :=
  bigSep_elim hg
theorem reached_at (c : Dev nD) : (bigSep barCells fun g => reached EB g 0 : sProp (M F)) ⊢ reached EB (barCell c) 0 :=
  bigSep_elim (Finset.mem_map_of_mem barEmb (Finset.mem_univ c))

theorem recs_bar (K : GSem nD τ sig → ℕ) (c : Dev nD) : recs I K ⊢ cellInv EB (Rd I) (K (barCell c)) (barCell c) := by
  unfold recs
  iintro ⟨H, -⟩
  iapply (inv_at I K (bar_mem c)); iexact H
theorem recs_cell (K : GSem nD τ sig → ℕ) (a : Fin 4) (k : Fin 8) (c : Dev nD) :
    recs I K ⊢ cellInv EB (Rd I) (K (cell a k c)) (cell a k c) := by
  unfold recs
  iintro ⟨H, -⟩
  iapply (inv_at I K (cell_mem a k c)); iexact H
theorem recs_reached (K : GSem nD τ sig → ℕ) (c : Dev nD) : recs I K ⊢ reached EB (barCell c) 0 := by
  unfold recs
  iintro ⟨-, H⟩
  iapply (reached_at (F := F) c); iexact H

theorem close (κ : ℕ) (g : GSem nD τ sig) :
    iprop(cellInv EB (Rd I) κ g ∗ atPos EB g (0 + 1) ∅ 0) ⊢ (|={Set.univ}=> semVal g 0 : sProp (M F)) :=
  Rounds.cell_close EB (Rd I) (Set.mem_univ κ) id (duties_later I g)

end Cert.KernelIdeal.Run

end
-- ==== Proof.KernelIdeal.Pieces.lean ====
/-
Buffers cut into pieces.

A device's communication and gather buffers are eight chunks, its result is the eight chunks it computes itself and the
eight that arrive, a chunk of the gather buffer is 64 rows, and the table, which the gather only reads, is dealt out by
shares: one of eight for each chunk, and of that one of 64 for each row.
-/
module

public import proofs.«01_k».proof.Proof.KernelIdeal.Protocol

@[expose] public section

set_option synthInstance.maxSize 4096

noncomputable section

namespace Cert.KernelIdeal.Run

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Which elements a piece has -/

/-- Row `i` of chunk `k` of the gather buffer, as the copy that fills it names it. -/
abbrev rowM (k : Fin 8) (i : Fin 64) : Memref sig .tc .vmem S1x1024 .f32 :=
  gathM.slice (Rect.unit (s := S512x1024) (offG k i) S1x1024.size (offG_inb k i)) (fun _ => rfl)

theorem mem_rows (k : Fin 8) (x : S512x1024.Idx) : x ∈ (rowsR k).set ↔ 64 * k.val ≤ (x 0).val ∧ (x 0).val < 64 * k.val + 64 := by
  rw [Rect.mem_set_unit]
  constructor
  · intro h; exact h 0
  · intro h a
    match a with
    | ⟨0, _⟩ => exact h
    | ⟨1, _⟩ => exact ⟨Nat.zero_le _, by have : (x 1).val < 1024 := (x 1).isLt; show (x 1).val < 0 + 1024; omega⟩

theorem gathC_set (k : Fin 8) : (gathC k).view.set = (rowsR k).set := View.set_slice_whole _ _
theorem commC_set (k : Fin 8) : (commC k).view.set = (rowsR k).set := View.set_slice_whole _ _

theorem mem_outR (c : Dev nD) (k : Fin 8) (x : S1024x1024.Idx) :
    x ∈ (outR' c k).set ↔ 512 * (c.val / 2) + 64 * k.val ≤ (x 0).val ∧ (x 0).val < 512 * (c.val / 2) + 64 * k.val + 64 := by
  rw [Rect.mem_set_unit, out_off']
  constructor
  · intro h; exact h 0
  · intro h a
    match a with
    | ⟨0, _⟩ => exact h
    | ⟨1, _⟩ => exact ⟨Nat.zero_le _, by have : (x 1).val < 1024 := (x 1).isLt; show (x 1).val < 0 + 1024; omega⟩

theorem outC_set (c : Dev nD) (k : Fin 8) : (outC c k).view.set = (outR' c k).set := View.set_slice_whole _ _
theorem outR_set (c : Dev nD) (k : Fin 8) : (outM.access (outR c k)).set = (outC c k).view.set :=
  ((View.set_slice_whole _ _).trans (congrArg (fun r : Rect S1024x1024 => r.set) (outR_eq c k))).trans (View.set_slice_whole _ _).symm

theorem mem_row (k : Fin 8) (i : Fin 64) (x : S512x1024.Idx) : x ∈ (rowM k i).view.set ↔ (x 0).val = 64 * k.val + i.val := by
  rw [show (rowM k i).view.set = (Rect.unit (s := S512x1024) (offG k i) S1x1024.size (offG_inb k i)).set from
    View.set_slice_whole _ _, Rect.mem_set_unit]
  have e : ∀ a, offG k i a = (![64 * k.val + i.val, 0] : Fin 2 → Nat) a := fun a => congrFun (offG_eq k i) a
  constructor
  · intro h
    have h0 : offG k i 0 ≤ (x 0).val ∧ (x 0).val < offG k i 0 + 1 := h 0
    have e0 : offG k i 0 = 64 * k.val + i.val := e 0
    omega
  · intro h a
    match a with
    | ⟨0, _⟩ =>
      have e0 : offG k i 0 = 64 * k.val + i.val := e 0
      show offG k i 0 ≤ (x 0).val ∧ (x 0).val < offG k i 0 + 1
      omega
    | ⟨1, _⟩ =>
      have e1 : offG k i 1 = 0 := e 1
      show offG k i 1 ≤ (x 1).val ∧ (x 1).val < offG k i 1 + 1024
      rw [e1]
      exact ⟨Nat.zero_le _, by have : (x 1).val < 1024 := (x 1).isLt; show (x 1).val < 0 + 1024; omega⟩

/-! ## The buffers cut -/

/-- A buffer's elements dealt out to pieces that cover them once. -/
theorem cut {ℓ : Loc nD τ sig} {T : Type} [Fintype T] (S : Finset (Idx ℓ)) (K : T → Finset (Idx ℓ))
    (hS : ∀ x, x ∈ S ↔ ∃ t, x ∈ K t) (hK : ∀ t t' x, x ∈ K t → x ∈ K t' → t = t') (q : PosShare TreeShare) (f : Buf (Elt F) ℓ) :
    (ℓ ↦[S]{q} f : sProp (M F)) = bigSep Finset.univ fun t => ℓ ↦[K t]{q} f := by
  have e : S = Finset.univ.biUnion K := by
    ext x; rw [hS, Finset.mem_biUnion]
    exact ⟨fun ⟨t, h⟩ => ⟨t, Finset.mem_univ _, h⟩, fun ⟨t, _, h⟩ => ⟨t, h⟩⟩
  rw [e]
  exact pointsTo_biUnion Finset.univ K fun t _ t' _ h => by
    rw [Finset.disjoint_left]
    intro x h1 h2
    exact h (hK t t' x h1 h2)

theorem rows_cover (x : S512x1024.Idx) : ∃ k : Fin 8, x ∈ (rowsR k).set := by
  have h : (x 0).val < 512 := (x 0).isLt
  exact ⟨⟨(x 0).val / 64, by omega⟩, (mem_rows _ x).mpr (by dsimp only; omega)⟩
theorem rows_once (k k' : Fin 8) (x : S512x1024.Idx) (h1 : x ∈ (rowsR k).set) (h2 : x ∈ (rowsR k').set) : k = k' := by
  rw [mem_rows] at h1 h2
  exact Fin.ext (by omega)

abbrev pt (c : Dev nD) (b : Ref sig .tc) (f : b.ty.Contents (Elt F)) : sProp (M F) :=
  (Memref.whole b).view.loc (c : Thread nD τ) ↦{fullShare} f

theorem gath_cut (c : Dev nD) (f : S512x1024.Idx → Elt F .f32) :
    (pt c cc0_scratch0 f : sProp (M F)) = bigSep Finset.univ fun k : Fin 8 => gPts c k fullShare f :=
  cut (ℓ := gathM.view.loc (c : Thread nD τ)) Finset.univ (fun k : Fin 8 => (gathC k).view.set)
    (fun x => ⟨fun _ => (rows_cover x).imp fun k h => by rw [gathC_set]; exact h, fun _ => Finset.mem_univ _⟩)
    (fun k k' x h1 h2 => rows_once k k' x (by rw [gathC_set] at h1; exact h1) (by rw [gathC_set] at h2; exact h2)) fullShare f
theorem comm_cut (c : Dev nD) (f : S512x1024.Idx → Elt F .f32) :
    (pt c cc0_scratch1 f : sProp (M F)) = bigSep Finset.univ fun k : Fin 8 => mPts c k f :=
  cut (ℓ := commM.view.loc (c : Thread nD τ)) Finset.univ (fun k : Fin 8 => (commC k).view.set)
    (fun x => ⟨fun _ => (rows_cover x).imp fun k h => by rw [commC_set]; exact h, fun _ => Finset.mem_univ _⟩)
    (fun k k' x h1 h2 => rows_once k k' x (by rw [commC_set] at h1; exact h1) (by rw [commC_set] at h2; exact h2)) fullShare f

/-- The two devices whose chunks a result is made of. -/
def owner (c : Dev nD) : Fin 2 → Dev nD := fun | 0 => c | 1 => xn c

theorem owner_half (c : Dev nD) (b : Fin 2) : (owner c b).val / 2 = if b = 0 then c.val / 2 else 1 - c.val / 2 := by
  match b with
  | 0 => rfl
  | 1 => exact xn_half c

theorem out_cover (c : Dev nD) (x : S1024x1024.Idx) : ∃ p : Fin 2 × Fin 8, x ∈ (outR' (owner c p.1) p.2).set := by
  have h : (x 0).val < 1024 := (x 0).isLt
  have hc : c.val < 4 := c.isLt
  by_cases e : (x 0).val / 512 = c.val / 2
  · exact ⟨(0, ⟨(x 0).val % 512 / 64, by omega⟩), (mem_outR _ _ x).mpr (by dsimp only; rw [owner_half, if_pos rfl]; omega)⟩
  · exact ⟨(1, ⟨(x 0).val % 512 / 64, by omega⟩), (mem_outR _ _ x).mpr (by dsimp only; rw [owner_half, if_neg (by decide)]; omega)⟩

theorem out_once (c : Dev nD) (p q : Fin 2 × Fin 8) (x : S1024x1024.Idx) (h1 : x ∈ (outR' (owner c p.1) p.2).set)
    (h2 : x ∈ (outR' (owner c q.1) q.2).set) : p = q := by
  rw [mem_outR, owner_half] at h1 h2
  have hc : c.val < 4 := c.isLt
  obtain ⟨b, k⟩ := p
  obtain ⟨b', k'⟩ := q
  dsimp only at h1 h2
  have hk := k.isLt
  have hk' := k'.isLt
  have h : b = b' ∧ k.val = k'.val := by
    match b, b' with
    | 0, 0 => rw [if_pos rfl] at h1 h2; exact ⟨rfl, by omega⟩
    | 0, 1 => rw [if_pos rfl] at h1; rw [if_neg (by decide)] at h2; omega
    | 1, 0 => rw [if_neg (by decide)] at h1; rw [if_pos rfl] at h2; omega
    | 1, 1 => rw [if_neg (by decide)] at h1 h2; exact ⟨rfl, by omega⟩
  exact Prod.ext h.1 (Fin.ext h.2)

theorem out_cut (c : Dev nD) (f : S1024x1024.Idx → Elt F .f32) :
    (pt c cc0_stg2_0 f : sProp (M F))
      = iprop((bigSep Finset.univ fun k : Fin 8 => oPts c c k f) ∗ bigSep Finset.univ fun k : Fin 8 => oPts c (xn c) k f) := by
  have h : (pt c cc0_stg2_0 f : sProp (M F)) = bigSep Finset.univ fun p : Fin 2 × Fin 8 => oPts c (owner c p.1) p.2 f :=
    cut (ℓ := outM.view.loc (c : Thread nD τ)) Finset.univ (fun p : Fin 2 × Fin 8 => (outC (owner c p.1) p.2).view.set)
      (fun x => ⟨fun _ => (out_cover c x).imp fun p h => by rw [outC_set]; exact h, fun _ => Finset.mem_univ _⟩)
      (fun p q x h1 h2 => out_once c p q x (by rw [outC_set] at h1; exact h1) (by rw [outC_set] at h2; exact h2)) fullShare f
  rw [h, bigSep_univ_prod]
  exact BI.bigSep_fin_two (fun b : Fin 2 => (bigSep Finset.univ fun k : Fin 8 => oPts c (owner c b) k f : sProp (M F)))

abbrev rPts (c : Dev nD) (k : Fin 8) (i : Fin 64) (f : S512x1024.Idx → Elt F .f32) : sProp (M F) :=
  (rowM k i).view.loc (c : Thread nD τ) ↦[(rowM k i).view.set]{fullShare} f

theorem row_cover (k : Fin 8) (x : S512x1024.Idx) : x ∈ (rowsR k).set ↔ ∃ i : Fin 64, x ∈ (rowM k i).view.set := by
  constructor
  · intro h
    have h' := (mem_rows k x).mp h
    refine ⟨⟨(x 0).val - 64 * k.val, by omega⟩, ?_⟩
    refine (mem_row k _ x).mpr ?_
    show (x 0).val = 64 * k.val + ((x 0).val - 64 * k.val)
    omega
  · rintro ⟨i, hi⟩
    have h1 := (mem_row k i x).mp hi
    have h2 : i.val < 64 := i.isLt
    refine (mem_rows k x).mpr ?_
    omega
theorem row_once (k : Fin 8) (i j : Fin 64) (x : S512x1024.Idx) (h1 : x ∈ (rowM k i).view.set) (h2 : x ∈ (rowM k j).view.set) :
    i = j := by
  have e1 := (mem_row k i x).mp h1
  have e2 := (mem_row k j x).mp h2
  exact Fin.ext (by omega)

theorem chunk_cut (c : Dev nD) (k : Fin 8) (f : S512x1024.Idx → Elt F .f32) :
    (gPts c k fullShare f : sProp (M F)) = bigSep Finset.univ fun i : Fin 64 => rPts c k i f :=
  cut (ℓ := gathM.view.loc (c : Thread nD τ)) (gathC k).view.set (fun i : Fin 64 => (rowM k i).view.set)
    (fun x => by rw [gathC_set]; exact row_cover k x)
    (fun i j x h1 h2 => row_once k i j x h1 h2) fullShare f

/-! ## The table's shares -/

/-- The share of the table that chunk `k`'s gather reads with, and that row `i` of it does. -/
abbrev qC (k : Fin 8) : PosShare TreeShare := ShareLeaves.leaf 3 fullShare k
abbrev qR (k : Fin 8) (i : Fin 64) : PosShare TreeShare := ShareLeaves.leaf 6 (qC k) i

abbrev ePts (c : Dev nD) (S : Finset S8192x1024.Idx) (q : PosShare TreeShare) (f : S8192x1024.Idx → Elt F .f32) : sProp (M F) :=
  embM.view.loc (c : Thread nD τ) ↦[S]{q} f

theorem leaves8 {ℓ : Loc nD τ sig} (S : Finset (Idx ℓ)) (f : Buf (Elt F) ℓ) (q : PosShare TreeShare) :
    (ℓ ↦[S]{q} f : sProp (M F)) = bigSep Finset.univ fun k : Fin 8 => ℓ ↦[S]{ShareLeaves.leaf 3 q k} f :=
  ShareLeaves.pointsTo_leaves S f 3 q
theorem leaves64 {ℓ : Loc nD τ sig} (S : Finset (Idx ℓ)) (f : Buf (Elt F) ℓ) (q : PosShare TreeShare) :
    (ℓ ↦[S]{q} f : sProp (M F)) = bigSep Finset.univ fun k : Fin 64 => ℓ ↦[S]{ShareLeaves.leaf 6 q k} f :=
  ShareLeaves.pointsTo_leaves S f 6 q
theorem table_cut (c : Dev nD) (f : S8192x1024.Idx → Elt F .f32) :
    (pt c main_arg1 f : sProp (M F)) = bigSep Finset.univ fun k : Fin 8 => ePts c Finset.univ (qC k) f :=
  leaves8 (ℓ := embM.view.loc (c : Thread nD τ)) Finset.univ f fullShare
theorem share_cut (c : Dev nD) (k : Fin 8) (f : S8192x1024.Idx → Elt F .f32) :
    (ePts c Finset.univ (qC k) f : sProp (M F)) = bigSep Finset.univ fun i : Fin 64 => ePts c Finset.univ (qR k i) f :=
  leaves64 (ℓ := embM.view.loc (c : Thread nD τ)) Finset.univ f (qC k)

end Cert.KernelIdeal.Run

end
-- ==== Proof.KernelIdeal.Gather.lean ====
/-
The gather of one chunk: 64 row copies started in a loop, and 64 waits.

The copies of a chunk all add to one semaphore, so only the last wait tells that they have landed.  Each copy holds its
own share of its row of the table until then.
-/
module

public import proofs.«01_k».proof.Proof.KernelIdeal.Pieces

@[expose] public section

set_option synthInstance.maxSize 4096

noncomputable section

namespace Cert.KernelIdeal.Run

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none
/-- A program's run on device `c`. -/
abbrev run (c : Dev nD) (p : CProg F) (Q : PUnit → sProp (M F)) : sProp (M F) :=
  wp frame (wpE (defs₀ (F := F)) 𝒱₀ (c : Thread nD τ) none) Set.univ p Q

abbrev gCell (k : Fin 8) (c : Dev nD) : GSem nD τ sig := ((c : Thread nD τ), .dma (gSem k))
/-- What one row's copy adds to its semaphore. -/
abbrev NR : ℕ := (rowM 0 0).view.dmaCredit
theorem NR_pos : 0 < NR := View.dmaCredit_pos _ (by decide)

variable (I : Inputs F)

/-- The row of the table that row `i` of chunk `k` is a copy of. -/
abbrev rowNo (c : Dev nD) (k : Fin 8) (i : Fin 64) : BitVec 32 :=
  I.safe c (ix1 (⟨64 * k.val + i.val, by have := k.isLt; have := i.isLt; omega⟩ : Fin 512))
theorem rowNo_ok (c : Dev nD) (k : Fin 8) (i : Fin 64) : k0_chk1 (rowNo I c k i) := chk_ok (I.ok c _)
abbrev eM (c : Dev nD) (k : Fin 8) (i : Fin 64) : Memref sig .tc .hbm S1x1024 .f32 :=
  embM.slice (Rect.unit (s := S8192x1024) (k0_off3 (rowNo I c k i)) S1x1024.size (k0_off3_inb _ (rowNo_ok I c k i))) (fun _ => rfl)
abbrev eSet (c : Dev nD) (k : Fin 8) (i : Fin 64) : Finset S8192x1024.Idx := (eM I c k i).view.set

/-- What the copy of one row gives back when it has landed. -/
def Dl (c : Dev nD) (k : Fin 8) (i : Fin 64) : sProp (M F) :=
  iprop(rPts c k i (Gat I c) ∗ ePts c (eSet I c k i) (qR k i) (I.emb c))
instance Dl_storable (c : Dev nD) (k : Fin 8) (i : Fin 64) : BI.Storable (upEmb : UEmb _ (M F)) (Dl I c k i) := by
  unfold Dl; infer_instance
/-- The rest of that copy's share of the table. -/
def rest (c : Dev nD) (k : Fin 8) (i : Fin 64) : sProp (M F) := ePts c (Finset.univ \ eSet I c k i) (qR k i) (I.emb c)

abbrev EC : UEmb Counters (M F) := countersEmb (U := UU)
abbrev batch (c : Dev nD) (k : Fin 8) (j u : ℕ) : sProp (M F) :=
  Transfers.Batch EC (c : Thread nD τ) (.dma (gSem k)) () NR (Dl I c k) j u

/-- What the loop that starts the copies has after `j` of them. -/
def issued (c : Dev nD) (k : Fin 8) (f : S512x1024.Idx → Elt F .f32) (j : ℕ) : sProp (M F) :=
  iprop(pt c cc0_stg0_0 (I.safe c) ∗ batch I c k j 0
    ∗ (bigSep (Transfers.issued j) fun i : Fin 64 => rest I c k i)
    ∗ bigSep (Transfers.pending j) fun i : Fin 64 => iprop(rPts c k i f ∗ ePts c Finset.univ (qR k i) (I.emb c)))

theorem word_read (c : Dev nD) (k : Fin 8) (i : Fin 64) (x : S1.Idx) :
    (safeM.access (Rect.unit (s := S512) (offS k i) S1.size (offS_inb k i))).read (Elt F) (I.safe c) x = rowNo I c k i := by
  show I.safe c ((Rect.unit (s := S512) (offS k i) S1.size (offS_inb k i)).emb x) = _
  refine congrArg (I.safe c) ?_
  funext a
  match a with
  | ⟨0, _⟩ =>
    refine Fin.ext ?_
    rw [Rect.emb_apply]
    have e : offS k i 0 = 64 * k.val + i.val := congrFun (offS_eq k i) 0
    have hx : (x 0).val < 1 := (x 0).isLt
    show offS k i 0 + 1 * (x 0).val = 64 * k.val + i.val
    omega

theorem bigSep_issued_step (D : Fin 64 → sProp (M F)) (j : ℕ) (hj : j < 64) :
    bigSep (Transfers.issued (j + 1)) D = iprop(D ⟨j, hj⟩ ∗ bigSep (Transfers.issued j) D) := by
  rw [Transfers.issued_succ hj, bigSep_insert (Transfers.not_mem_issued hj)]; rfl

theorem issue_step (c : Dev nD) (k : Fin 8) (f : S512x1024.Idx → Elt F .f32) (i : Fin k0_t1_loop.trips) (u : Unit) :
    issued I c k f i.val ⊢ run c (issueTrip k i u) fun _ => issued I c k f (i.val + 1) := by
  have hi : i.val < 64 := i.isLt
  unfold issued issueTrip smemLoad smemLoadElt run
  simp only [Prog.bind_op, Prog.bind_ret, Prog.bind_lift, Prog.pure_eq_ret]
  rw [Transfers.bigSep_pending_step _ i.val hi, bigSep_issued_step _ i.val hi]
  iintro ⟨Hs, HB, Hr, ⟨Hrow, He⟩, Hp⟩
  iapply (wp_load_rect 𝒱₀ (c : Thread nD τ) none Set.univ (m := safeM) (r := Rect.unit (s := S512) (offS k i) S1.size (offS_inb k i))
    (q := fullShare) (S := Finset.univ) (f := I.safe c) (Finset.subset_univ _)) $$ [Hs]
  · iexact Hs
  iintro Hs
  rw [word_read I c k i]
  iapply (wp_assume 𝒱₀ (c : Thread nD τ) none Set.univ (rowNo_ok I c k i))
  ihave He' := (pointsTo_split_subset (ℓ := embM.view.loc (c : Thread nD τ)) (I := eSet I c k i) (S := Finset.univ) (q := qR k i) (f := I.emb c) (Finset.subset_univ _)).1 $$ [He]
  · iexact He
  icases He' with ⟨He, Hrest⟩
  iapply (Transfers.wp_dmaBatch EC 𝒱₀ (c : Thread nD τ) none () NR (D := Dl I c k) (j := i.val) (u := 0) (src := eM I c k i)
    (dst := rowM k i) (q := qR k i) (fs := I.emb c) (fd := f) (Sd := (rowM k i).view.set) rfl (Finset.Subset.refl _) hi (Nat.zero_le _) (by
      unfold Dl
      refine sep_mono_left (Entails.of_eq (pointsTo_congr fun x hx => ?_))
      exact write_on_set (rowM k i).view f (Gat I c) _ (gather_read I c k i _ rfl (rowNo_ok I c k i)) x hx)) $$ [He Hrow HB]
  · isplitl [He]; · iexact He
    isplitl [Hrow]; · iexact Hrow
    iexact HB
  iintro HB
  rw [wp_ret]
  imodintro
  isplitl [Hs]; · iexact Hs
  isplitl [HB]; · iexact HB
  isplitl [Hr Hrest]
  · isplitl [Hrest]; · unfold rest; iexact Hrest
    iexact Hr
  iexact Hp

/-- A chunk whose 64 copies are on their way. -/
def flight (c : Dev nD) (k : Fin 8) : sProp (M F) :=
  iprop(batch I c k 64 0 ∗ bigSep Finset.univ fun i : Fin 64 => rest I c k i)

/-- What chunk `k` is before its gather: its rows, its share of the table, its semaphore at zero. -/
def fresh (c : Dev nD) (k : Fin 8) (f : S512x1024.Idx → Elt F .f32) : sProp (M F) :=
  iprop(gPts c k fullShare f ∗ ePts c Finset.univ (qC k) (I.emb c) ∗ semVal (gCell k c) 0)

theorem pending_all : Transfers.pending (n := 64) 64 = ∅ := by decide
theorem issued_full : Transfers.issued (m := 64) 64 = Finset.univ := by decide

theorem issue_run (c : Dev nD) (k : Fin 8) (f : S512x1024.Idx → Elt F .f32) (kk : PUnit → CProg F) (Q : PUnit → sProp (M F)) :
    iprop(pt c cc0_stg0_0 (I.safe c) ∗ fresh I c k f)
      ⊢ iprop((iprop(pt c cc0_stg0_0 (I.safe c) ∗ flight I c k) -∗ run c (kk ⟨⟩) Q) -∗ run c (issue k >>= kk) Q) := by
  unfold fresh flight issue run
  rw [chunk_cut, share_cut]
  iintro ⟨Hs, Hg, He, Hv⟩ Hk
  rw [wp_bind]
  iapply fupd_wp
  imod (Transfers.batch_alloc' (Lvl := ℕ) EC (c : Thread nD τ) () NR (Dl I c k) (sm := .dma (gSem k)) (E := Set.univ)) $$ Hv with HB
  imodintro
  iapply (Scf.wp_for _ _ _ _ _ _ _ _ (issueTrip k) (fun j _ => issued I c k f j) (fun i u => issue_step I c k f i u))
  isplitr [Hk]
  · unfold issued
    rw [Transfers.pending_zero, Transfers.issued_zero, bigSep_empty, bigSep_sep']
    isplitl [Hs]; · iexact Hs
    isplitl [HB]; · iexact HB
    isplitr; · iempintro
    isplitl [Hg]; · iexact Hg
    iexact He
  iintro %u H
  have e : issued I c k f (Scf.trips k0_t1_loop.lb k0_t1_loop.ub k0_t1_loop.st) ⊢ iprop(pt c cc0_stg0_0 (I.safe c) ∗ batch I c k 64 0 ∗ bigSep Finset.univ fun i : Fin 64 => rest I c k i) := by
    show issued I c k f 64 ⊢ _
    unfold issued
    rw [issued_full, pending_all, bigSep_empty]
    iintro ⟨Hs, HB, Hr, -⟩
    isplitl [Hs]; · iexact Hs
    isplitl [HB] <;> iassumption
  iapply Hk
  iapply e; iexact H

/-- What the loop that waits has after `j` waits: nothing but the credit until the last. -/
def waited (c : Dev nD) (k : Fin 8) (O : CellTallies nD τ sig Unit) (j : ℕ) : sProp (M F) :=
  iprop((if j < 64 then batch I c k 64 (j * NR) else iprop(bigSep Finset.univ (Dl I c k) ∗ semVal (gCell k c) 0))
    ∗ levAts L lv ∗ ∃ W, owes (c : Thread nD τ) O W)

theorem wait_step (c : Dev nD) (k : Fin 8) (O : CellTallies nD τ sig Unit)
    (hO : (levAts L lv : sProp (M F)) ⊢ MayWait (c : Thread nD τ) (.dma (gSem k)) () O)
    (i : Fin k0_t1_loop.trips) (u : Unit) :
    waited I c k O i.val ⊢ run c (waitTrip k i u) fun _ => waited I c k O (i.val + 1) := by
  have hi : i.val < 64 := i.isLt
  unfold waited waitTrip run
  simp only [Prog.bind_op, Prog.bind_ret, Prog.bind_lift, Prog.pure_eq_ret]
  rw [if_pos hi]
  have hN := NR_pos
  by_cases h : i.val + 1 < 64
  · rw [if_pos h]
    iintro ⟨HB, #Hlev, ⟨%W, HO⟩⟩
    iapply (Transfers.wp_waitBatchO EC 𝒱₀ (c : Thread nD τ) none () (N := NR) rfl (D := Dl I c k) (u := i.val * NR)
      (by rw [← Nat.succ_mul, Nat.mul_comm]; exact Nat.mul_lt_mul_of_pos_left h hN) (O := O) (W := W)) $$ [HB HO]
    · isplitl [HB]; · iexact HB
      isplitl [HO]; · iexact HO
      iapply hO; iexact Hlev
    iintro ⟨HB, HO⟩
    rw [wp_ret]
    imodintro
    isplitl [HB]
    · rw [Nat.succ_mul]; iexact HB
    isplitr; · iexact Hlev
    iexists _; iexact HO
  · have e : i.val = 63 := by omega
    rw [if_neg h]
    iintro ⟨HB, #Hlev, ⟨%W, HO⟩⟩
    iapply (Transfers.wp_waitBatchLastO EC 𝒱₀ (c : Thread nD τ) none () (N := NR) rfl hN (D := Dl I c k) (u := i.val * NR)
      (by rw [← Nat.succ_mul, e, Nat.mul_comm]) (O := O) (W := W)) $$ [HB HO]
    · isplitl [HB]; · iexact HB
      isplitl [HO]; · iexact HO
      iapply hO; iexact Hlev
    iintro ⟨HD, Hv, HO⟩
    rw [wp_ret]
    imodintro
    isplitl [HD Hv]
    · isplitl [HD] <;> iassumption
    isplitr; · iexact Hlev
    iexists _; iexact HO

/-- A chunk gathered: its rows hold the gathered rows, and its share of the table and its semaphore are back. -/
def gathered (c : Dev nD) (k : Fin 8) : sProp (M F) := fresh I c k (Gat I c)

theorem collect_row (c : Dev nD) (k : Fin 8) (i : Fin 64) :
    iprop(Dl I c k i ∗ rest I c k i) ⊢ iprop(rPts c k i (Gat I c) ∗ ePts c Finset.univ (qR k i) (I.emb c)) := by
  unfold Dl rest
  iintro ⟨⟨Hr, He⟩, Hx⟩
  isplitl [Hr]; · iexact Hr
  iapply (pointsTo_split_subset (ℓ := embM.view.loc (c : Thread nD τ)) (I := eSet I c k i) (S := Finset.univ) (q := qR k i) (f := I.emb c) (Finset.subset_univ _)).2
  isplitl [He] <;> iassumption

theorem collect (c : Dev nD) (k : Fin 8) :
    iprop((bigSep Finset.univ (Dl I c k) ∗ semVal (gCell k c) 0) ∗ bigSep Finset.univ fun i : Fin 64 => rest I c k i) ⊢ gathered I c k := by
  unfold gathered fresh
  rw [chunk_cut, share_cut]
  have e : iprop(bigSep Finset.univ (Dl I c k) ∗ bigSep Finset.univ fun i : Fin 64 => rest I c k i)
      ⊢ iprop((bigSep Finset.univ fun i : Fin 64 => rPts c k i (Gat I c)) ∗ bigSep Finset.univ fun i : Fin 64 => ePts c Finset.univ (qR k i) (I.emb c)) := by
    rw [← bigSep_sep', ← bigSep_sep']
    exact bigSep_mono fun i _ => collect_row I c k i
  iintro ⟨⟨HD, Hv⟩, Hr⟩
  ihave H := e $$ [HD Hr]
  · isplitl [HD] <;> iassumption
  icases H with ⟨Hg, He⟩
  isplitl [Hg]; · iexact Hg
  isplitl [He]; · iexact He
  iexact Hv

theorem await_run (c : Dev nD) (k : Fin 8) (O : CellTallies nD τ sig Unit)
    (hO : (levAts L lv : sProp (M F)) ⊢ MayWait (c : Thread nD τ) (.dma (gSem k)) () O)
    (kk : PUnit → CProg F) (Q : PUnit → sProp (M F)) :
    iprop(flight I c k ∗ levAts L lv ∗ ∃ W, owes (c : Thread nD τ) O W)
      ⊢ iprop((iprop(gathered I c k ∗ ∃ W, owes (c : Thread nD τ) O W) -∗ run c (kk ⟨⟩) Q) -∗ run c (await k >>= kk) Q) := by
  unfold flight await run
  iintro ⟨⟨HB, Hr⟩, #Hlev, HO⟩ Hk
  rw [wp_bind]
  iapply (Scf.wp_for _ _ _ _ _ _ _ _ (waitTrip k) (fun j _ => waited I c k O j) (fun i u => wait_step I c k O hO i u))
  isplitr [Hk Hr]
  · unfold waited
    rw [if_pos (by decide), Nat.zero_mul]
    isplitl [HB]; · iexact HB
    isplitr; · iexact Hlev
    iexact HO
  iintro %u H
  have e : waited I c k O (Scf.trips k0_t1_loop.lb k0_t1_loop.ub k0_t1_loop.st)
      ⊢ iprop((bigSep Finset.univ (Dl I c k) ∗ semVal (gCell k c) 0) ∗ ∃ W, owes (c : Thread nD τ) O W) := by
    show waited I c k O 64 ⊢ _
    unfold waited
    rw [if_neg (by decide)]
    iintro ⟨H, -, HO⟩
    isplitl [H] <;> iassumption
  ihave H' := e $$ H
  icases H' with ⟨HD, HO⟩
  iapply Hk
  isplitl [HD Hr]
  · iapply (collect I c k)
    isplitl [HD] <;> iassumption
  iexact HO

end Cert.KernelIdeal.Run

end
-- ==== Proof.KernelIdeal.Chunks.lean ====
/-
The steps of one chunk, each proved once for every chunk and device.

A chunk goes through five states: before its gather, with its gather under way, masked and sent to the first partner,
summed and sent to the second, and done.  Each step takes the chunk from one state to the next and takes the send it
makes off what the device owes.
-/
module

public import proofs.«01_k».proof.Proof.KernelIdeal.Gather

@[expose] public section

set_option synthInstance.maxSize 4096

noncomputable section

namespace Cert.KernelIdeal.Run

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Inputs F)

/-! ## The states of a chunk -/

/-- The windows' blocks, which every step only reads. -/
def wins (c : Dev nD) : sProp (M F) := iprop(pt c cc0_stg0_0 (I.safe c) ∗ pt c cc0_stg1_0 (I.mask c))

/-- That a chunk's four cells at the two ends of its sends are in their first round. -/
def fst (c : Dev nD) (k : Fin 8) : sProp (M F) :=
  iprop(reached EB (cell 0 k c) 0 ∗ reached EB (cell 1 k (yn c)) 0 ∗ reached EB (cell 2 k c) 0 ∗ reached EB (cell 3 k (xn c)) 0)
instance fst_persistent (c : Dev nD) (k : Fin 8) : BI.Persistent (fst (F := F) c k) := by unfold fst; infer_instance

/-- What the second send needs: the duties it pays and the rows it writes. -/
def forX (c : Dev nD) (k : Fin 8) (fx : S1024x1024.Idx → Elt F .f32) : sProp (M F) :=
  iprop(dutyTok EB (cell 2 k c) 0 false ∗ dutyTok EB (cell 3 k (xn c)) 0 false ∗ oPts (xn c) c k fx)
/-- What the first send needs. -/
def forY (c : Dev nD) (k : Fin 8) (fm : S512x1024.Idx → Elt F .f32) : sProp (M F) :=
  iprop(dutyTok EB (cell 0 k c) 0 false ∗ dutyTok EB (cell 1 k (yn c)) 0 false ∗ mPts (yn c) k fm)
/-- The device's place at one of a chunk's own cells, with its credit to wait there. -/
def place (a : Fin 4) (c : Dev nD) (k : Fin 8) : sProp (M F) := atPos EB (cell a k c) 0 ∅ 0
def ticket (a : Fin 4) (c : Dev nD) (k : Fin 8) : sProp (M F) := cred (tallyAt (cell a k c) () N)

/-- What of a chunk the first steps leave alone. -/
def later (c : Dev nD) (k : Fin 8) (fo fx : S1024x1024.Idx → Elt F .f32) : sProp (M F) :=
  iprop((place 0 c k ∗ place 2 c k ∗ place 3 c k ∗ ticket 3 c k) ∗ (place 1 c k ∗ ticket 1 c k) ∗ oPts c c k fo ∗ forX c k fx ∗ fst c k)

def C0 (c : Dev nD) (k : Fin 8) (f fm : S512x1024.Idx → Elt F .f32) (fo fx : S1024x1024.Idx → Elt F .f32) : sProp (M F) :=
  iprop(fresh I c k f ∗ forY c k fm ∗ later c k fo fx)
def C1 (c : Dev nD) (k : Fin 8) (fm : S512x1024.Idx → Elt F .f32) (fo fx : S1024x1024.Idx → Elt F .f32) : sProp (M F) :=
  iprop(flight I c k ∗ forY c k fm ∗ later c k fo fx)
/-- What the gather gives back for good, and the share of the masked rows kept while they are being sent. -/
def kept (c : Dev nD) (k : Fin 8) : sProp (M F) :=
  iprop(ePts c Finset.univ (qC k) (I.emb c) ∗ semVal (gCell k c) 0 ∗ gPts c k fullShare.left (Msk I c) ∗ ticket 0 c k)
def C2 (c : Dev nD) (k : Fin 8) (fo fx : S1024x1024.Idx → Elt F .f32) : sProp (M F) :=
  iprop(kept I c k ∗ later c k fo fx)
def C3 (c : Dev nD) (k : Fin 8) : sProp (M F) :=
  iprop(kept I c k ∗ (place 0 c k ∗ place 2 c k ∗ place 3 c k ∗ ticket 3 c k)
    ∗ (atPos EB (cell 1 k c) (0 + 1) ∅ 0 ∗ mPts c k (Msk I (yn c)) ∗ ticket 2 c k))
/-- A chunk done, its cells not yet closed. -/
def C4 (c : Dev nD) (k : Fin 8) : sProp (M F) :=
  iprop((ePts c Finset.univ (qC k) (I.emb c) ∗ semVal (gCell k c) 0 ∗ gPts c k fullShare (Msk I c) ∗ mPts c k (Msk I (yn c)))
    ∗ (oPts c c k (Res I c) ∗ oPts c (xn c) k (Res I c))
    ∗ atPos EB (cell 0 k c) (0 + 1) ∅ 0 ∗ atPos EB (cell 1 k c) (0 + 1) ∅ 0 ∗ atPos EB (cell 2 k c) (0 + 1) ∅ 0
    ∗ atPos EB (cell 3 k c) (0 + 1) ∅ 0)

/-- What a device owes, whatever it has waited for. -/
abbrev owing (c : Dev nD) (O : CellTallies nD τ sig Unit) : sProp (M F) := iprop(∃ W, owes (c : Thread nD τ) O W)

theorem halves (c : Dev nD) (k : Fin 8) (f : S512x1024.Idx → Elt F .f32) :
    (gPts c k fullShare f : sProp (M F)) ⊣⊢ iprop(gPts c k fullShare.left f ∗ gPts c k fullShare.right f) :=
  pointsTo_share (PosShare.mem_left_op_right fullShare)

/-! ## The steps -/

theorem issue_chunk (c : Dev nD) (k : Fin 8) (f fm : S512x1024.Idx → Elt F .f32) (fo fx : S1024x1024.Idx → Elt F .f32)
    (kk : PUnit → CProg F) (Q : PUnit → sProp (M F)) :
    iprop(wins I c ∗ C0 I c k f fm fo fx)
      ⊢ iprop((iprop(wins I c ∗ C1 I c k fm fo fx) -∗ run c (kk ⟨⟩) Q) -∗ run c (issue k >>= kk) Q) := by
  unfold wins C0 C1
  iintro ⟨⟨Hs, Hm⟩, Hf, Hr⟩ Hk
  iapply (issue_run I c k f kk Q) $$ [Hs Hf]
  · isplitl [Hs] <;> iassumption
  iintro ⟨Hs, Hf⟩
  iapply Hk
  isplitl [Hs Hm]
  · isplitl [Hs] <;> iassumption
  isplitl [Hf] <;> iassumption

theorem mask_run (c : Dev nD) (k : Fin 8) (kk : PUnit → CProg F) (Q : PUnit → sProp (M F)) :
    iprop(wins I c ∗ gPts c k fullShare (Gat I c))
      ⊢ iprop((iprop(wins I c ∗ gPts c k fullShare (Msk I c)) -∗ run c (kk ⟨⟩) Q) -∗ run c (maskStep k >>= kk) Q) := by
  unfold wins maskStep run
  simp only [Prog.bind_op, Prog.bind_ret, Prog.bind_lift, Prog.pure_eq_ret, Prog.bind_assoc]
  iintro ⟨⟨Hs, Hm⟩, Hg⟩ Hk
  iapply (wp_load_rect 𝒱₀ (c : Thread nD τ) none Set.univ (m := maskM) (r := maskR k)
    (q := fullShare) (S := Finset.univ) (f := I.mask c) (Finset.subset_univ _)) $$ [Hm]
  · iexact Hm
  iintro Hm
  iapply (wp_load_rect 𝒱₀ (c : Thread nD τ) none Set.univ (m := gathM) (r := rowsR k)
    (q := fullShare) (S := (gathC k).view.set) (f := Gat I c) (Finset.Subset.refl _)) $$ [Hg]
  · iexact Hg
  iintro Hg
  iapply (wp_load_rect 𝒱₀ (c : Thread nD τ) none Set.univ (m := gathM) (r := rowsR k)
    (q := fullShare) (S := (gathC k).view.set) (f := Gat I c) (Finset.Subset.refl _)) $$ [Hg]
  · iexact Hg
  iintro Hg
  iapply (wp_store 𝒱₀ (c : Thread nD τ) none Set.univ (m := gathM) (r := rowsR k) (Mk := Finset.univ)
    (S := (gathC k).view.set) (f := Gat I c) (Finset.Subset.refl _)) $$ [Hg]
  · iexact Hg
  iintro Hg
  iapply Hk
  isplitl [Hs Hm]
  · isplitl [Hs] <;> iassumption
  ihave Hg' := (Entails.of_eq (pointsTo_congr (ℓ := (gathC k).view.loc (c : Thread nD τ)) (q := fullShare)
    (write_on_set (gathC k).view (Gat I c) (Msk I c) _ (mask_read I c k)))) $$ [Hg]
  · iexact Hg
  iexact Hg'

theorem sendY_run (K : GSem nD τ sig → ℕ) (c : Dev nD) (k : Fin 8) (n n' b : ℕ) (hn : n = k.val) (hn' : n' = k.val + 1)
    (fm : S512x1024.Idx → Elt F .f32) (kk : PUnit → CProg F) (Q : PUnit → sProp (M F)) :
    iprop(recs I K ∗ reached EB (cell 0 k c) 0 ∗ reached EB (cell 1 k (yn c)) 0 ∗ gPts c k fullShare.right (Msk I c) ∗ forY c k fm ∗ owing c (owed n b c))
      ⊢ iprop((iprop(ticket 0 c k ∗ owing c (owed n' b c)) -∗ run c (kk ⟨⟩) Q) -∗ run c (sendY c k >>= kk) Q) := by
  subst hn hn'
  unfold forY ticket sendY run
  simp only [Prog.bind_op, Prog.bind_ret, Prog.bind_lift, Prog.pure_eq_ret, Prog.bind_assoc]
  iintro ⟨#HR, #H0, #H1, Hg, ⟨Ht0, Ht1, Hm⟩, ⟨%W, HO⟩⟩ Hk
  iapply (Rounds.wp_send_pointsTo 𝒱₀ EB (Rd I) (c : Thread nD τ) none (c' := (yn c : Thread nD τ)) (src := gathC k) (dst := commC k)
      (sS := .dma (ysSem k)) (sem := .dma (yrSem k)) (q := fullShare.right) (fs := Msk I c) (κ₁ := K (cell 0 k c)) (κ₂ := K (cell 1 k (yn c)))
      (r₁ := 0) (r₂ := 0) (d₁ := false) (d₂ := false) (fd := fm)
      (by rw [duties_cell I 0 k c]; exact Finset.mem_singleton_self _) (by rw [duties_cell I 1 k (yn c)]; exact Finset.mem_singleton_self _)
      () () N rfl (amount_cell I 0 k c false) (amount_cell I 1 k (yn c) false) (owed (k.val + 1) b c) (owed_y k b c) (W := W)
      (by rw [payload_cell I 0 k c]; exact BI.Entails.refl _)
      (by
        rw [payload_cell I 1 k (yn c)]
        show _ ⊢ mPts (yn c) k (Msk I (yn (yn c)))
        rw [yn_yn]
        exact Entails.of_eq (pointsTo_congr (write_on_set (commC k).view fm (Msk I c) _ rfl)))) $$ [Hg Hm HO Ht0 Ht1]
  · isplitr; · iapply (recs_cell I K 0 k c); iexact HR
    isplitr; · iapply (recs_cell I K 1 k (yn c)); iexact HR
    isplitl [Hg]; · iexact Hg
    isplitl [Hm]; · iexact Hm
    isplitl [HO]; · iexact HO
    isplitl [Ht0]; · iexact Ht0
    isplitr; · iexact H0
    isplitl [Ht1]; · iexact Ht1
    iexact H1
  iintro ⟨Hc, HO⟩
  iapply Hk
  isplitl [Hc]; · iexact Hc
  iexists _; iexact HO

theorem sendX_run (K : GSem nD τ sig → ℕ) (c : Dev nD) (k : Fin 8) (n n' a : ℕ) (hn : n = k.val) (hn' : n' = k.val + 1)
    (fx : S1024x1024.Idx → Elt F .f32) (kk : PUnit → CProg F) (Q : PUnit → sProp (M F)) :
    iprop(recs I K ∗ reached EB (cell 2 k c) 0 ∗ reached EB (cell 3 k (xn c)) 0 ∗ oPts c c k (Res I c) ∗ forX c k fx ∗ owing c (owed a n c))
      ⊢ iprop((iprop(ticket 2 c k ∗ owing c (owed a n' c)) -∗ run c (kk ⟨⟩) Q) -∗ run c (sendX c k >>= kk) Q) := by
  subst hn hn'
  unfold forX ticket sendX run
  simp only [Prog.bind_op, Prog.bind_ret, Prog.bind_lift, Prog.pure_eq_ret, Prog.bind_assoc]
  iintro ⟨#HR, #H0, #H1, Hg, ⟨Ht0, Ht1, Hm⟩, ⟨%W, HO⟩⟩ Hk
  iapply (Rounds.wp_send_pointsTo 𝒱₀ EB (Rd I) (c : Thread nD τ) none (c' := (xn c : Thread nD τ)) (src := outC c k) (dst := outC c k)
      (sS := .dma (xsSem k)) (sem := .dma (xrSem k)) (q := fullShare) (fs := Res I c) (κ₁ := K (cell 2 k c)) (κ₂ := K (cell 3 k (xn c)))
      (r₁ := 0) (r₂ := 0) (d₁ := false) (d₂ := false) (fd := fx)
      (by rw [duties_cell I 2 k c]; exact Finset.mem_singleton_self _) (by rw [duties_cell I 3 k (xn c)]; exact Finset.mem_singleton_self _)
      () () N rfl (amount_cell I 2 k c false) (amount_cell I 3 k (xn c) false) (owed a (k.val + 1) c) (owed_x k a c) (W := W)
      (by rw [payload_cell I 2 k c]; exact BI.Entails.refl _)
      (by
        rw [payload_cell I 3 k (xn c)]
        show _ ⊢ oPts (xn c) (xn (xn c)) k (Res I (xn c))
        rw [xn_xn, Res_xn]
        exact Entails.of_eq (pointsTo_congr (write_on_set (outC c k).view fx (Res I c) _ rfl)))) $$ [Hg Hm HO Ht0 Ht1]
  · isplitr; · iapply (recs_cell I K 2 k c); iexact HR
    isplitr; · iapply (recs_cell I K 3 k (xn c)); iexact HR
    isplitl [Hg]; · iexact Hg
    isplitl [Hm]; · iexact Hm
    isplitl [HO]; · iexact HO
    isplitl [Ht0]; · iexact Ht0
    isplitr; · iexact H0
    isplitl [Ht1]; · iexact Ht1
    iexact H1
  iintro ⟨Hc, HO⟩
  iapply Hk
  isplitl [Hc]; · iexact Hc
  iexists _; iexact HO

theorem front_chunk (K : GSem nD τ sig → ℕ) (c : Dev nD) (k : Fin 8) (n n' b : ℕ) (hn : n = k.val) (hn' : n' = k.val + 1)
    (fm : S512x1024.Idx → Elt F .f32) (fo fx : S1024x1024.Idx → Elt F .f32) (kk : PUnit → CProg F) (Q : PUnit → sProp (M F)) :
    iprop(recs I K ∗ levAts L lv ∗ wins I c ∗ C1 I c k fm fo fx ∗ owing c (owed n b c))
      ⊢ iprop((iprop(wins I c ∗ C2 I c k fo fx ∗ owing c (owed n' b c)) -∗ run c (kk ⟨⟩) Q) -∗ run c (front c k >>= kk) Q) := by
  unfold C1 C2 front
  simp only [Prog.bind_assoc]
  iintro ⟨#HR, #Hlev, Hw, ⟨Hf, Hy, Hl⟩, HO⟩ Hk
  iapply (await_run I c k (owed n b c) (mayWait_owed c _ n b (by rw [lvS_g]; omega) (by rw [lvS_g]; omega))) $$ [Hf HO]
  · isplitl [Hf]; · iexact Hf
    isplitr; · iexact Hlev
    iexact HO
  iintro ⟨Hg, HO⟩
  unfold gathered fresh
  icases Hg with ⟨Hg, He, Hv⟩
  iapply (mask_run I c k) $$ [Hw Hg]
  · isplitl [Hw] <;> iassumption
  iintro ⟨Hw, Hg⟩
  ihave Hg' := (halves c k (Msk I c)).1 $$ Hg
  icases Hg' with ⟨Hg1, Hg2⟩
  unfold later fst
  icases Hl with ⟨Hp, Hq, Ho, Hx, ⟨#H0, #H1, #H2, #H3⟩⟩
  iapply (sendY_run I K c k n n' b hn hn' fm) $$ [Hg2 Hy HO]
  · isplitr; · iexact HR
    isplitr; · iexact H0
    isplitr; · iexact H1
    isplitl [Hg2]; · iexact Hg2
    isplitl [Hy]; · iexact Hy
    iexact HO
  iintro ⟨Ht, HO⟩
  iapply Hk
  isplitl [Hw]; · iexact Hw
  isplitr [HO]
  · unfold kept
    isplitl [He Hv Hg1 Ht]
    · isplitl [He]; · iexact He
      isplitl [Hv]; · iexact Hv
      isplitl [Hg1]; · iexact Hg1
      iexact Ht
    isplitl [Hp]; · iexact Hp
    isplitl [Hq]; · iexact Hq
    isplitl [Ho]; · iexact Ho
    isplitl [Hx]; · iexact Hx
    isplitr; · iexact H0
    isplitr; · iexact H1
    isplitr; · iexact H2
    iexact H3
  iexact HO

/-- The wait for one of a chunk's own cells. -/
theorem wait_cell (K : GSem nD τ sig → ℕ) (c : Dev nD) (a : Fin 4) (k : Fin 8) (sem : DmaSem sig) (hs : rsem a k = .dma sem)
    {sp sp' : Space} {s' : Shape} {e' : EltTy} {s : Shape} {e : EltTy} {κ' : Kind}
    (src : Memref sig .tc sp' s' e') (dst : Memref sig κ' sp s e) (hsrc : src.view.WordExact) (hdst : dst.view.WordExact)
    (hN : dst.view.dmaCredit = N) (O : CellTallies nD τ sig Unit)
    (hO : (levAts L lv : sProp (M F)) ⊢ MayWait (c : Thread nD τ) (.dma sem) () O)
    (kk : PUnit → CProg F) (Q : PUnit → sProp (M F)) :
    iprop(recs I K ∗ levAts L lv ∗ place a c k ∗ ticket a c k ∗ owing c O)
      ⊢ iprop((iprop(atPos EB (cell a k c) (0 + 1) ∅ 0 ∗ chunkPay I a k c ∗ owing c O) -∗ run c (kk ⟨⟩) Q)
        -∗ run c (.op (.waitDma2 sem src dst hsrc hdst) kk) Q) := by
  have hc : cell a k c = ((c : Thread nD τ), .dma sem) := Prod.ext rfl hs
  unfold place ticket run
  iintro ⟨#HR, #Hlev, Hp, Ht, ⟨%W, HO⟩⟩ Hk
  ihave HI := (recs_cell I K a k c) $$ HR
  have e1 := expect_cell I a k c
  have e2 := rest_cell I a k c
  rw [hc] at e1 e2 ⊢
  iapply (Rounds.wp_wait_rest_token 𝒱₀ EB (Rd I) (c : Thread nD τ) none (κ := K ((c : Thread nD τ), .dma sem))
      (wpE_waitDma2_eq (src := src) (dst := dst) (hsrc := hsrc) (hdst := hdst) 𝒱₀ (c : Thread nD τ) none Set.univ) (Set.mem_univ _) () (O := O) (W := W) (R := 0) (m := 0) (T := ∅)
      ((Nat.zero_add _).trans (hN.trans e1.symm))) $$ [HI Ht HO Hp]
  · isplitl [HI]; · iexact HI
    isplitl [Ht]; · rw [hN]; iexact Ht
    isplitl [HO]; · iexact HO
    isplitr; · iapply hO; iexact Hlev
    iexact Hp
  iintro ⟨HO, Hp, -, Hpay⟩
  ihave Hpay' := (Entails.of_eq e2) $$ Hpay
  iapply Hk
  isplitl [Hp]; · iexact Hp
  isplitl [Hpay']; · iexact Hpay'
  iexists _; iexact HO

end Cert.KernelIdeal.Run

end
-- ==== Proof.KernelIdeal.Body.lean ====
/-
The body run on a device: the meeting, then the chunks' steps in the printed order, then the cells closed.
-/
module

public import proofs.«01_k».proof.Proof.KernelIdeal.Chunks

@[expose] public section

set_option synthInstance.maxSize 4096

noncomputable section

namespace Cert.KernelIdeal.Run

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Inputs F)

/-! ## The rest of the steps -/

/-- A chunk done, its four cells closed. -/
def C5 (c : Dev nD) (k : Fin 8) : sProp (M F) :=
  iprop((ePts c Finset.univ (qC k) (I.emb c) ∗ gPts c k fullShare (Msk I c) ∗ mPts c k (Msk I (yn c)))
    ∗ (oPts c c k (Res I c) ∗ oPts c (xn c) k (Res I c))
    ∗ (semVal (gCell k c) 0 ∗ semVal (cell 0 k c) 0 ∗ semVal (cell 1 k c) 0 ∗ semVal (cell 2 k c) 0 ∗ semVal (cell 3 k c) 0))

theorem sum_run (c : Dev nD) (k : Fin 8) (fo : S1024x1024.Idx → Elt F .f32) (kk : PUnit → CProg F) (Q : PUnit → sProp (M F)) :
    iprop(gPts c k fullShare.left (Msk I c) ∗ mPts c k (Msk I (yn c)) ∗ oPts c c k fo)
      ⊢ iprop((iprop(gPts c k fullShare.left (Msk I c) ∗ mPts c k (Msk I (yn c)) ∗ oPts c c k (Res I c)) -∗ run c (kk ⟨⟩) Q)
        -∗ run c ((do
            let a : Vec F S64x1024 .f32 ← Prog.lift (.load gathM (rowsR k).toLoadRect (View.loadsAt_vmem h_S64x1024))
            let b : Vec F S64x1024 .f32 ← Prog.lift (.load commM (rowsR k).toLoadRect (View.loadsAt_vmem h_S64x1024))
            let _ : Vec F S64x1024 .f32 ← Prog.lift (.load outM (outR c k).toLoadRect (View.loadsAt_vmem h_S64x1024))
            Prog.lift (.store outM (outR c k) (k0_pay5 a b) Finset.univ (View.stores_vmem_bits_univ h_S64x1024 rfl) (.inl rfl)) : CProg F)
            >>= kk) Q) := by
  unfold run
  simp only [Prog.bind_op, Prog.bind_ret, Prog.bind_lift, Prog.pure_eq_ret, Prog.bind_assoc]
  iintro ⟨Hg, Hm, Ho⟩ Hk
  iapply (wp_load_rect 𝒱₀ (c : Thread nD τ) none Set.univ (m := gathM) (r := rowsR k)
    (q := fullShare.left) (S := (gathC k).view.set) (f := Msk I c) (Finset.Subset.refl _)) $$ [Hg]
  · iexact Hg
  iintro Hg
  iapply (wp_load_rect 𝒱₀ (c : Thread nD τ) none Set.univ (m := commM) (r := rowsR k)
    (q := fullShare) (S := (commC k).view.set) (f := Msk I (yn c)) (Finset.Subset.refl _)) $$ [Hm]
  · iexact Hm
  iintro Hm
  iapply (wp_load_rect 𝒱₀ (c : Thread nD τ) none Set.univ (m := outM) (r := outR c k)
    (q := fullShare) (S := (outC c k).view.set) (f := fo) (outR_set c k).subset) $$ [Ho]
  · iexact Ho
  iintro Ho
  iapply (wp_store 𝒱₀ (c : Thread nD τ) none Set.univ (m := outM) (r := outR c k) (Mk := Finset.univ)
    (S := (outC c k).view.set) (f := fo) (outR_set c k).subset) $$ [Ho]
  · iexact Ho
  iintro Ho
  iapply Hk
  isplitl [Hg]; · iexact Hg
  isplitl [Hm]; · iexact Hm
  ihave Ho' := (Entails.of_eq (pointsTo_congr (ℓ := (outC c k).view.loc (c : Thread nD τ)) (I := (outC c k).view.set) (q := fullShare)
    (fun i hi => write_on_set (outM.access (outR c k)) fo (Res I c) _ (proc_read I c k) i (by rw [outR_set]; exact hi)))) $$ [Ho]
  · iexact Ho
  iexact Ho'

theorem back_chunk (K : GSem nD τ sig → ℕ) (c : Dev nD) (k : Fin 8) (n n' a : ℕ) (hn : n = k.val) (hn' : n' = k.val + 1) (ha : k.val < a)
    (fo fx : S1024x1024.Idx → Elt F .f32) (kk : PUnit → CProg F) (Q : PUnit → sProp (M F)) :
    iprop(recs I K ∗ levAts L lv ∗ C2 I c k fo fx ∗ owing c (owed a n c))
      ⊢ iprop((iprop(C3 I c k ∗ owing c (owed a n' c)) -∗ run c (kk ⟨⟩) Q) -∗ run c (back c k >>= kk) Q) := by
  unfold C2 C3 back procStep kept later fst
  simp only [Prog.bind_assoc]
  iintro ⟨#HR, #Hlev, ⟨⟨He, Hv, Hg, Hc0⟩, Hp, ⟨Hp1, Hc1⟩, Ho, Hx, ⟨#H0, #H1, #H2, #H3⟩⟩, HO⟩ Hk
  rw [Prog.bind_lift]
  iapply (wait_cell I K c 1 k (yrSem k) rfl (gathC k) (commC k) (View.wordExact_bits rfl) (View.wordExact_bits rfl) rfl (owed a n c)
    (mayWait_owed c _ a n (by rw [show SemLoc.dma (yrSem k) = rsem 1 k from rfl, lvS_yr]; omega)
      (by rw [show SemLoc.dma (yrSem k) = rsem 1 k from rfl, lvS_yr]; omega))) $$ [Hp1 Hc1 HO]
  · isplitr; · iexact HR
    isplitr; · iexact Hlev
    isplitl [Hp1]; · iexact Hp1
    isplitl [Hc1]; · iexact Hc1
    iexact HO
  iintro ⟨Hp1, Hm, HO⟩
  simp only [chunkPay]
  simp only [← Prog.bind_assoc]
  rw [Prog.bind_assoc]
  iapply (sum_run I c k fo) $$ [Hg Hm Ho]
  · isplitl [Hg]; · iexact Hg
    isplitl [Hm]; · iexact Hm
    iexact Ho
  iintro ⟨Hg, Hm, Ho⟩
  iapply (sendX_run I K c k n n' a hn hn' fx) $$ [Ho Hx HO]
  · isplitr; · iexact HR
    isplitr; · iexact H2
    isplitr; · iexact H3
    isplitl [Ho]; · iexact Ho
    isplitl [Hx]; · iexact Hx
    iexact HO
  iintro ⟨Ht, HO⟩
  iapply Hk
  isplitr [HO]
  · isplitl [He Hv Hg Hc0]
    · isplitl [He]; · iexact He
      isplitl [Hv]; · iexact Hv
      isplitl [Hg]; · iexact Hg
      iexact Hc0
    isplitl [Hp]; · iexact Hp
    isplitl [Hp1]; · iexact Hp1
    isplitl [Hm]; · iexact Hm
    iexact Ht
  iexact HO

theorem fin_chunk (K : GSem nD τ sig → ℕ) (c : Dev nD) (k : Fin 8) (kk : PUnit → CProg F) (Q : PUnit → sProp (M F)) :
    iprop(recs I K ∗ levAts L lv ∗ C3 I c k ∗ owing c 0)
      ⊢ iprop((iprop(C5 I c k ∗ owing c 0) -∗ run c (kk ⟨⟩) Q) -∗ run c (finStep c k >>= kk) Q) := by
  unfold C3 finStep kept
  simp only [Prog.bind_op, Prog.bind_ret, Prog.bind_lift, Prog.pure_eq_ret, Prog.bind_assoc]
  iintro ⟨#HR, #Hlev, ⟨⟨He, Hv, Hg, Hc0⟩, ⟨Hp0, Hp2, Hp3, Hc3⟩, ⟨Hp1, Hm, Hc2⟩⟩, HO⟩ Hk
  iapply (wait_cell I K c 0 k (ysSem k) rfl (commC k) (gathC k) (View.wordExact_bits rfl) (View.wordExact_bits rfl) rfl 0
    (by rw [MayWait_zero]; iintro -; iempintro)) $$ [Hp0 Hc0 HO]
  · isplitr; · iexact HR
    isplitr; · iexact Hlev
    isplitl [Hp0]; · iexact Hp0
    isplitl [Hc0]; · iexact Hc0
    iexact HO
  iintro ⟨Hp0, Hg2, HO⟩
  iapply (wait_cell I K c 2 k (xsSem k) rfl (outC c k) (outC c k) (View.wordExact_bits rfl) (View.wordExact_bits rfl) rfl 0
    (by rw [MayWait_zero]; iintro -; iempintro)) $$ [Hp2 Hc2 HO]
  · isplitr; · iexact HR
    isplitr; · iexact Hlev
    isplitl [Hp2]; · iexact Hp2
    isplitl [Hc2]; · iexact Hc2
    iexact HO
  iintro ⟨Hp2, Ho, HO⟩
  iapply (wait_cell I K c 3 k (xrSem k) rfl (outC c k) (outC c k) (View.wordExact_bits rfl) (View.wordExact_bits rfl) rfl 0
    (by rw [MayWait_zero]; iintro -; iempintro)) $$ [Hp3 Hc3 HO]
  · isplitr; · iexact HR
    isplitr; · iexact Hlev
    isplitl [Hp3]; · iexact Hp3
    isplitl [Hc3]; · iexact Hc3
    iexact HO
  iintro ⟨Hp3, Hox, HO⟩
  simp only [chunkPay]
  unfold run
  iapply fupd_wp
  imod (close I (K (cell 0 k c)) (cell 0 k c)) $$ [Hp0] with Hs0
  · isplitr; · iapply (recs_cell I K 0 k c); iexact HR
    iexact Hp0
  imod (close I (K (cell 1 k c)) (cell 1 k c)) $$ [Hp1] with Hs1
  · isplitr; · iapply (recs_cell I K 1 k c); iexact HR
    iexact Hp1
  imod (close I (K (cell 2 k c)) (cell 2 k c)) $$ [Hp2] with Hs2
  · isplitr; · iapply (recs_cell I K 2 k c); iexact HR
    iexact Hp2
  imod (close I (K (cell 3 k c)) (cell 3 k c)) $$ [Hp3] with Hs3
  · isplitr; · iapply (recs_cell I K 3 k c); iexact HR
    iexact Hp3
  imodintro
  iapply Hk
  isplitr [HO]
  · unfold C5
    isplitl [He Hg Hg2 Hm]
    · isplitl [He]; · iexact He
      isplitl [Hg Hg2]
      · iapply (halves c k (Msk I c)).2
        isplitl [Hg]; · iexact Hg
        iexact Hg2
      iexact Hm
    isplitl [Ho Hox]
    · isplitl [Ho]; · iexact Ho
      iexact Hox
    isplitl [Hv]; · iexact Hv
    isplitl [Hs0]; · iexact Hs0
    isplitl [Hs1]; · iexact Hs1
    isplitl [Hs2]; · iexact Hs2
    iexact Hs3
  iexact HO

/-! ## The meeting -/

/-- What the two signals pay and the wait needs. -/
def meeting (c : Dev nD) : sProp (M F) :=
  iprop(dutyTok EB (barCell (yn c)) 0 false ∗ dutyTok EB (barCell (xn c)) 0 true ∗ atPos EB (barCell c) 0 ∅ 0
    ∗ cred (tallyAt (barCell c) () 2))

theorem meet_run (K : GSem nD τ sig → ℕ) (c : Dev nD) (kk : PUnit → CProg F) (Q : PUnit → sProp (M F)) :
    iprop(recs I K ∗ levAts L lv ∗ meeting c ∗ barY (yn c) ∗ barX (xn c) ∗ owing c (O₀ c))
      ⊢ iprop((iprop(barY c ∗ barX c ∗ semVal (barCell c) 0 ∗ owing c (owed 0 0 c)) -∗ run c (kk ⟨⟩) Q) -∗ run c (meet c >>= kk) Q) := by
  unfold meeting meet run
  simp only [semSignalWord, semWaitWord, Prog.bind_op, Prog.bind_ret, Prog.bind_lift, Prog.pure_eq_ret, Prog.bind_assoc]
  iintro ⟨#HR, #Hlev, ⟨HtY, HtX, Hp, Hc⟩, HY, HX, ⟨%W, HO⟩⟩ Hk
  iapply (Rounds.wp_signal 𝒱₀ EB (Rd I) (c : Thread nD τ) none (dst := (yn c : Thread nD τ)) (sem := barS) (r := 0) (d := false) (κ := K (barCell (yn c)))
      (by rw [show ((yn c : Thread nD τ), SemLoc.reg barS) = barCell (yn c) from rfl, duties_bar]; decide) (amount_bar I (yn c) false) ()
      (owed 0 0 c + tallyAt (barCell (xn c)) () 1) rfl) $$ [HO HtY HY]
  · isplitr; · iapply (recs_bar I K (yn c)); iexact HR
    isplitl [HO]; · iexact HO
    isplitl [HtY]; · iexact HtY
    isplitl [HY]
    · iapply (Entails.of_eq (payload_barY I (yn c)).symm); iexact HY
    · iapply (recs_reached I K (yn c)); iexact HR
  iintro HO
  iapply (Rounds.wp_signal 𝒱₀ EB (Rd I) (c : Thread nD τ) none (dst := (xn c : Thread nD τ)) (sem := barS) (r := 0) (d := true) (κ := K (barCell (xn c)))
      (by rw [show ((xn c : Thread nD τ), SemLoc.reg barS) = barCell (xn c) from rfl, duties_bar]; decide) (amount_bar I (xn c) true) ()
      (owed 0 0 c) rfl) $$ [HO HtX HX]
  · isplitr; · iapply (recs_bar I K (xn c)); iexact HR
    isplitl [HO]; · iexact HO
    isplitl [HtX]; · iexact HtX
    isplitl [HX]
    · iapply (Entails.of_eq (payload_barX I (xn c)).symm); iexact HX
    · iapply (recs_reached I K (xn c)); iexact HR
  iintro HO
  iapply (Rounds.wp_wait_rest_token 𝒱₀ EB (Rd I) (c : Thread nD τ) none (κ := K (barCell c))
      (wpE_semWait_eq 𝒱₀ (c : Thread nD τ) none Set.univ) (Set.mem_univ _) () (O := owed 0 0 c) (W := W) (R := 0) (m := 0) (T := ∅)
      ((Nat.zero_add 2).trans (expect_bar I c).symm)) $$ [Hc HO Hp]
  · isplitr; · iapply (recs_bar I K c); iexact HR
    isplitl [Hc]; · iexact Hc
    isplitl [HO]; · iexact HO
    isplitr
    · iapply (mayWait_owed (F := F) c (.reg barS) 0 0 (by rw [lvS_bar]; omega) (by rw [lvS_bar]; omega)); iexact Hlev
    iexact Hp
  iintro ⟨HO, Hp, -, Hpay⟩
  ihave Hpay' := (Entails.of_eq (rest_bar I c)) $$ Hpay
  icases Hpay' with ⟨HY, HX⟩
  iapply fupd_wp
  imod (close I (K (barCell c)) (barCell c)) $$ [Hp] with Hs
  · isplitr; · iapply (recs_bar I K c); iexact HR
    iexact Hp
  imodintro
  iapply Hk
  isplitl [HY]; · iexact HY
  isplitl [HX]; · iexact HX
  isplitl [Hs]; · iexact Hs
  iexists _; iexact HO

/-! ## The body -/

theorem each8 (Φ : Fin 8 → sProp (M F)) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = insert 0 (insert 1 (insert 2 (insert 3 (insert 4 (insert 5 (insert 6 {7})))))) from by decide,
    bigSep_insert (by decide), bigSep_insert (by decide), bigSep_insert (by decide), bigSep_insert (by decide), bigSep_insert (by decide),
    bigSep_insert (by decide), bigSep_insert (by decide), bigSep_singleton]
  rfl

theorem join {T : Type} (S : Finset T) (Φ Ψ : T → sProp (M F)) :
    bigSep S (fun t => iprop(Φ t ∗ Ψ t)) = iprop(bigSep S Φ ∗ bigSep S Ψ) := bigSep_sep' ..

/-- What the body needs beside the buffers: the meeting's and the chunks' places, duties and credits. -/
def links (c : Dev nD) (k : Fin 8) : sProp (M F) :=
  iprop((dutyTok EB (cell 0 k c) 0 false ∗ dutyTok EB (cell 1 k (yn c)) 0 false ∗ dutyTok EB (cell 2 k c) 0 false
      ∗ dutyTok EB (cell 3 k (xn c)) 0 false)
    ∗ ((place 0 c k ∗ place 2 c k ∗ place 3 c k ∗ ticket 3 c k) ∗ (place 1 c k ∗ ticket 1 c k))
    ∗ (reached EB (cell 0 k c) 0 ∗ reached EB (cell 1 k c) 0 ∗ reached EB (cell 2 k c) 0 ∗ reached EB (cell 3 k c) 0))

def start (c : Dev nD) (fo : S1024x1024.Idx → Elt F .f32) : sProp (M F) :=
  iprop(wins I c ∗ pt c cc0_stg2_0 fo ∗ ((∃ f, pt c cc0_scratch0 f) ∗ (∃ f, pt c cc0_scratch1 f)) ∗ pt c main_arg1 (I.emb c)
    ∗ (bigSep Finset.univ fun k : Fin 8 => semVal (gCell k c) 0) ∗ meeting c ∗ (bigSep Finset.univ fun k : Fin 8 => links c k))

def finish (c : Dev nD) : sProp (M F) :=
  iprop(wins I c ∗ pt c cc0_stg2_0 (Res I c) ∗ ((∃ f, pt c cc0_scratch0 f) ∗ (∃ f, pt c cc0_scratch1 f)) ∗ pt c main_arg1 (I.emb c)
    ∗ semVal (barCell c) 0 ∗ bigSep Finset.univ fun k : Fin 8 =>
      iprop(semVal (gCell k c) 0 ∗ semVal (cell 0 k c) 0 ∗ semVal (cell 1 k c) 0 ∗ semVal (cell 2 k c) 0 ∗ semVal (cell 3 k c) 0))

theorem links_own (c : Dev nD) (k : Fin 8) : links (F := F) c k ⊢ iprop(links c k ∗ reached EB (cell 1 k c) 0 ∗ reached EB (cell 3 k c) 0) := by
  unfold links
  iintro ⟨Ha, Hb, ⟨#H0, #H1, #H2, #H3⟩⟩
  isplitl [Ha Hb]
  · isplitl [Ha]; · iexact Ha
    isplitl [Hb]; · iexact Hb
    isplitr; · iexact H0
    isplitr; · iexact H1
    isplitr; · iexact H2
    iexact H3
  isplitr; · iexact H1
  iexact H3

theorem links_owns (c : Dev nD) : (bigSep Finset.univ fun k : Fin 8 => links (F := F) c k)
    ⊢ iprop((bigSep Finset.univ fun k : Fin 8 => links c k) ∗ (bigSep Finset.univ fun k : Fin 8 => reached EB (cell 1 k c) 0)
      ∗ bigSep Finset.univ fun k : Fin 8 => reached EB (cell 3 k c) 0) := by
  rw [← join, ← join]
  exact bigSep_mono fun k _ => links_own c k

theorem chunk_start (c : Dev nD) (k : Fin 8) (f fm : S512x1024.Idx → Elt F .f32) (fo fx : S1024x1024.Idx → Elt F .f32) :
    iprop(gPts c k fullShare f ∗ ePts c Finset.univ (qC k) (I.emb c) ∗ semVal (gCell k c) 0 ∗ links c k ∗ mPts (yn c) k fm
      ∗ reached EB (cell 1 k (yn c)) 0 ∗ oPts (xn c) c k fx ∗ reached EB (cell 3 k (xn c)) 0 ∗ oPts c c k fo) ⊢ C0 I c k f fm fo fx := by
  unfold links C0 fresh forY later forX fst
  iintro ⟨Hg, He, Hv, ⟨⟨Ht0, Ht1, Ht2, Ht3⟩, ⟨Hp, Hq⟩, ⟨#H0, -, #H2, -⟩⟩, Hm, #H1, Hx, #H3, Ho⟩
  isplitl [Hg He Hv]
  · isplitl [Hg]; · iexact Hg
    isplitl [He]; · iexact He
    iexact Hv
  isplitl [Ht0 Ht1 Hm]
  · isplitl [Ht0]; · iexact Ht0
    isplitl [Ht1]; · iexact Ht1
    iexact Hm
  isplitl [Hp]; · iexact Hp
  isplitl [Hq]; · iexact Hq
  isplitl [Ho]; · iexact Ho
  isplitl [Ht2 Ht3 Hx]
  · isplitl [Ht2]; · iexact Ht2
    isplitl [Ht3]; · iexact Ht3
    iexact Hx
  isplitr; · iexact H0
  isplitr; · iexact H1
  isplitr; · iexact H2
  iexact H3

theorem chunks_start (c : Dev nD) (f fm : S512x1024.Idx → Elt F .f32) (fo fx : S1024x1024.Idx → Elt F .f32) :
    iprop((bigSep Finset.univ fun k : Fin 8 => gPts c k fullShare f) ∗ (bigSep Finset.univ fun k : Fin 8 => ePts c Finset.univ (qC k) (I.emb c))
      ∗ (bigSep Finset.univ fun k : Fin 8 => semVal (gCell k c) 0) ∗ (bigSep Finset.univ fun k : Fin 8 => links c k)
      ∗ (bigSep Finset.univ fun k : Fin 8 => mPts (yn c) k fm) ∗ (bigSep Finset.univ fun k : Fin 8 => reached EB (cell 1 k (yn c)) 0)
      ∗ (bigSep Finset.univ fun k : Fin 8 => oPts (xn c) c k fx) ∗ (bigSep Finset.univ fun k : Fin 8 => reached EB (cell 3 k (xn c)) 0)
      ∗ bigSep Finset.univ fun k : Fin 8 => oPts c c k fo) ⊢ bigSep Finset.univ fun k : Fin 8 => C0 I c k f fm fo fx := by
  rw [← join, ← join, ← join, ← join, ← join, ← join, ← join, ← join]
  exact bigSep_mono fun k _ => chunk_start I c k f fm fo fx

/-- The chunks done, put together again. -/
theorem chunks_done (c : Dev nD) : (bigSep Finset.univ fun k : Fin 8 => C5 I c k)
    ⊢ iprop((pt c main_arg1 (I.emb c) ∗ pt c cc0_scratch0 (Msk I c) ∗ pt c cc0_scratch1 (Msk I (yn c))) ∗ pt c cc0_stg2_0 (Res I c)
      ∗ bigSep Finset.univ fun k : Fin 8 =>
        iprop(semVal (gCell k c) 0 ∗ semVal (cell 0 k c) 0 ∗ semVal (cell 1 k c) 0 ∗ semVal (cell 2 k c) 0 ∗ semVal (cell 3 k c) 0)) := by
  unfold C5
  rw [join, join, join, join, join, gath_cut, comm_cut, out_cut, table_cut]

set_option maxHeartbeats 4000000 in
theorem whole_run (K : GSem nD τ sig → ℕ) (c : Dev nD) (fo : S1024x1024.Idx → Elt F .f32) (Q : PUnit → sProp (M F)) :
    iprop(recs I K ∗ levAts L lv ∗ start I c fo ∗ owing c (O₀ c))
      ⊢ iprop((iprop(finish I c ∗ owing c 0) -∗ Q ⟨⟩) -∗ run c (whole c) Q) := by
  unfold start whole
  iintro ⟨#HR, #Hlev, ⟨Hw, Ho, ⟨⟨%f, Hg⟩, ⟨%f', Hm⟩⟩, He, Hv, Hmt, Hl⟩, HO⟩ Hk
  ihave Hl := (links_owns c) $$ Hl
  icases Hl with ⟨Hl, #Hr1, #Hr3⟩
  ihave Ho := (Entails.of_eq (out_cut c fo)) $$ Ho
  icases Ho with ⟨Ho, Hox⟩
  ihave Hm := (Entails.of_eq (comm_cut c f')) $$ Hm
  ihave Hg := (Entails.of_eq (gath_cut c f)) $$ Hg
  ihave He := (Entails.of_eq (table_cut c (I.emb c))) $$ He
  iapply (meet_run I K c) $$ [Hmt Hm Hox HO]
  · isplitr; · iexact HR
    isplitr; · iexact Hlev
    isplitl [Hmt]; · iexact Hmt
    isplitl [Hm]
    · unfold barY; rw [yn_yn]
      isplitl [Hm]; · iexists f'; iexact Hm
      iexact Hr1
    isplitl [Hox]
    · unfold barX; rw [xn_xn]
      isplitl [Hox]; · iexists fo; iexact Hox
      iexact Hr3
    iexact HO
  iintro ⟨HY, HX, Hb, HO⟩
  unfold barY barX
  icases HY with ⟨⟨%fm, HY⟩, #HrY⟩
  icases HX with ⟨⟨%fx, HX⟩, #HrX⟩
  ihave HC := (chunks_start I c f fm fo fx) $$ [Hg He Hv Hl HY HX Ho]
  · isplitl [Hg]; · iexact Hg
    isplitl [He]; · iexact He
    isplitl [Hv]; · iexact Hv
    isplitl [Hl]; · iexact Hl
    isplitl [HY]; · iexact HY
    isplitr; · iexact HrY
    isplitl [HX]; · iexact HX
    isplitr; · iexact HrX
    iexact Ho
  ihave HC := (Entails.of_eq (each8 _)) $$ HC
  icases HC with ⟨H0, H1, H2, H3, H4, H5, H6, H7⟩
  iapply (issue_chunk I c 0 f fm fo fx) $$ [Hw H0]
  · isplitl [Hw]; · iexact Hw
    iexact H0
  iintro ⟨Hw, H0⟩
  iapply (issue_chunk I c 1 f fm fo fx) $$ [Hw H1]
  · isplitl [Hw]; · iexact Hw
    iexact H1
  iintro ⟨Hw, H1⟩
  iapply (front_chunk I K c 0 0 1 0 rfl rfl fm fo fx) $$ [Hw H0 HO]
  · isplitr; · iexact HR
    isplitr; · iexact Hlev
    isplitl [Hw]; · iexact Hw
    isplitl [H0]; · iexact H0
    iexact HO
  iintro ⟨Hw, H0, HO⟩
  iapply (issue_chunk I c 2 f fm fo fx) $$ [Hw H2]
  · isplitl [Hw]; · iexact Hw
    iexact H2
  iintro ⟨Hw, H2⟩
  iapply (front_chunk I K c 1 1 2 0 rfl rfl fm fo fx) $$ [Hw H1 HO]
  · isplitr; · iexact HR
    isplitr; · iexact Hlev
    isplitl [Hw]; · iexact Hw
    isplitl [H1]; · iexact H1
    iexact HO
  iintro ⟨Hw, H1, HO⟩
  iapply (back_chunk I K c 0 0 1 2 rfl rfl (by decide) fo fx) $$ [H0 HO]
  · isplitr; · iexact HR
    isplitr; · iexact Hlev
    isplitl [H0]; · iexact H0
    iexact HO
  iintro ⟨H0, HO⟩
  iapply (issue_chunk I c 3 f fm fo fx) $$ [Hw H3]
  · isplitl [Hw]; · iexact Hw
    iexact H3
  iintro ⟨Hw, H3⟩
  iapply (front_chunk I K c 2 2 3 1 rfl rfl fm fo fx) $$ [Hw H2 HO]
  · isplitr; · iexact HR
    isplitr; · iexact Hlev
    isplitl [Hw]; · iexact Hw
    isplitl [H2]; · iexact H2
    iexact HO
  iintro ⟨Hw, H2, HO⟩
  iapply (back_chunk I K c 1 1 2 3 rfl rfl (by decide) fo fx) $$ [H1 HO]
  · isplitr; · iexact HR
    isplitr; · iexact Hlev
    isplitl [H1]; · iexact H1
    iexact HO
  iintro ⟨H1, HO⟩
  iapply (issue_chunk I c 4 f fm fo fx) $$ [Hw H4]
  · isplitl [Hw]; · iexact Hw
    iexact H4
  iintro ⟨Hw, H4⟩
  iapply (front_chunk I K c 3 3 4 2 rfl rfl fm fo fx) $$ [Hw H3 HO]
  · isplitr; · iexact HR
    isplitr; · iexact Hlev
    isplitl [Hw]; · iexact Hw
    isplitl [H3]; · iexact H3
    iexact HO
  iintro ⟨Hw, H3, HO⟩
  iapply (back_chunk I K c 2 2 3 4 rfl rfl (by decide) fo fx) $$ [H2 HO]
  · isplitr; · iexact HR
    isplitr; · iexact Hlev
    isplitl [H2]; · iexact H2
    iexact HO
  iintro ⟨H2, HO⟩
  iapply (issue_chunk I c 5 f fm fo fx) $$ [Hw H5]
  · isplitl [Hw]; · iexact Hw
    iexact H5
  iintro ⟨Hw, H5⟩
  iapply (front_chunk I K c 4 4 5 3 rfl rfl fm fo fx) $$ [Hw H4 HO]
  · isplitr; · iexact HR
    isplitr; · iexact Hlev
    isplitl [Hw]; · iexact Hw
    isplitl [H4]; · iexact H4
    iexact HO
  iintro ⟨Hw, H4, HO⟩
  iapply (back_chunk I K c 3 3 4 5 rfl rfl (by decide) fo fx) $$ [H3 HO]
  · isplitr; · iexact HR
    isplitr; · iexact Hlev
    isplitl [H3]; · iexact H3
    iexact HO
  iintro ⟨H3, HO⟩
  iapply (issue_chunk I c 6 f fm fo fx) $$ [Hw H6]
  · isplitl [Hw]; · iexact Hw
    iexact H6
  iintro ⟨Hw, H6⟩
  iapply (front_chunk I K c 5 5 6 4 rfl rfl fm fo fx) $$ [Hw H5 HO]
  · isplitr; · iexact HR
    isplitr; · iexact Hlev
    isplitl [Hw]; · iexact Hw
    isplitl [H5]; · iexact H5
    iexact HO
  iintro ⟨Hw, H5, HO⟩
  iapply (back_chunk I K c 4 4 5 6 rfl rfl (by decide) fo fx) $$ [H4 HO]
  · isplitr; · iexact HR
    isplitr; · iexact Hlev
    isplitl [H4]; · iexact H4
    iexact HO
  iintro ⟨H4, HO⟩
  iapply (issue_chunk I c 7 f fm fo fx) $$ [Hw H7]
  · isplitl [Hw]; · iexact Hw
    iexact H7
  iintro ⟨Hw, H7⟩
  iapply (front_chunk I K c 6 6 7 5 rfl rfl fm fo fx) $$ [Hw H6 HO]
  · isplitr; · iexact HR
    isplitr; · iexact Hlev
    isplitl [Hw]; · iexact Hw
    isplitl [H6]; · iexact H6
    iexact HO
  iintro ⟨Hw, H6, HO⟩
  iapply (back_chunk I K c 5 5 6 7 rfl rfl (by decide) fo fx) $$ [H5 HO]
  · isplitr; · iexact HR
    isplitr; · iexact Hlev
    isplitl [H5]; · iexact H5
    iexact HO
  iintro ⟨H5, HO⟩
  iapply (front_chunk I K c 7 7 8 6 rfl rfl fm fo fx) $$ [Hw H7 HO]
  · isplitr; · iexact HR
    isplitr; · iexact Hlev
    isplitl [Hw]; · iexact Hw
    isplitl [H7]; · iexact H7
    iexact HO
  iintro ⟨Hw, H7, HO⟩
  iapply (back_chunk I K c 6 6 7 8 rfl rfl (by decide) fo fx) $$ [H6 HO]
  · isplitr; · iexact HR
    isplitr; · iexact Hlev
    isplitl [H6]; · iexact H6
    iexact HO
  iintro ⟨H6, HO⟩
  iapply (back_chunk I K c 7 7 8 8 rfl rfl (by decide) fo fx) $$ [H7 HO]
  · isplitr; · iexact HR
    isplitr; · iexact Hlev
    isplitl [H7]; · iexact H7
    iexact HO
  iintro ⟨H7, HO⟩
  rw [owed_none]
  iapply (fin_chunk I K c 0) $$ [H0 HO]
  · isplitr; · iexact HR
    isplitr; · iexact Hlev
    isplitl [H0]; · iexact H0
    iexact HO
  iintro ⟨H0, HO⟩
  iapply (fin_chunk I K c 1) $$ [H1 HO]
  · isplitr; · iexact HR
    isplitr; · iexact Hlev
    isplitl [H1]; · iexact H1
    iexact HO
  iintro ⟨H1, HO⟩
  iapply (fin_chunk I K c 2) $$ [H2 HO]
  · isplitr; · iexact HR
    isplitr; · iexact Hlev
    isplitl [H2]; · iexact H2
    iexact HO
  iintro ⟨H2, HO⟩
  iapply (fin_chunk I K c 3) $$ [H3 HO]
  · isplitr; · iexact HR
    isplitr; · iexact Hlev
    isplitl [H3]; · iexact H3
    iexact HO
  iintro ⟨H3, HO⟩
  iapply (fin_chunk I K c 4) $$ [H4 HO]
  · isplitr; · iexact HR
    isplitr; · iexact Hlev
    isplitl [H4]; · iexact H4
    iexact HO
  iintro ⟨H4, HO⟩
  iapply (fin_chunk I K c 5) $$ [H5 HO]
  · isplitr; · iexact HR
    isplitr; · iexact Hlev
    isplitl [H5]; · iexact H5
    iexact HO
  iintro ⟨H5, HO⟩
  iapply (fin_chunk I K c 6) $$ [H6 HO]
  · isplitr; · iexact HR
    isplitr; · iexact Hlev
    isplitl [H6]; · iexact H6
    iexact HO
  iintro ⟨H6, HO⟩
  rw [← Prog.bind_pure (finStep c 7)]
  iapply (fin_chunk I K c 7) $$ [H7 HO]
  · isplitr; · iexact HR
    isplitr; · iexact Hlev
    isplitl [H7]; · iexact H7
    iexact HO
  iintro ⟨H7, HO⟩
  unfold run
  rw [Prog.pure_eq_ret, wp_ret]
  imodintro
  iapply Hk
  isplitr [HO]
  · unfold finish
    ihave HC := (Entails.of_eq (each8 (fun k => C5 I c k)).symm) $$ [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    ihave HC := (chunks_done I c) $$ HC
    icases HC with ⟨⟨He, Hg, Hm⟩, Ho, Hs⟩
    isplitl [Hw]; · iexact Hw
    isplitl [Ho]; · iexact Ho
    isplitl [Hg Hm]
    · isplitl [Hg]; · iexists _; iexact Hg
      iexists _; iexact Hm
    isplitl [He]; · iexact He
    isplitl [Hb]; · iexact Hb
    iexact Hs
  iexact HO

end Cert.KernelIdeal.Run

end
-- ==== Proof.KernelIdeal.Host.lean ====
/-
What @main computes before the kernel is called: on each device the row numbers, clipped to its part of the table, and
the mask of those that were in it.
-/
module

public import proofs.«01_k».proof.Proof.KernelIdeal.Contents
public import proofs.«01_k».proof.Proof.Gen.KernelIdeal.Regions
public import Idealize.ShloMosaic.Lib.StableHlo.Run
public import Idealize.ShloMosaic.Lib.StableHlo.RunClose
public import Idealize.ShloMosaic.Lib.Pointwise
public import Idealize.ShloMosaic.Lib.DynamicIndex

@[expose] public section

set_option synthInstance.maxSize 4096

noncomputable section

namespace Cert.KernelIdeal.Run

open Idealize.ShloMosaic Idealize.ShloMosaic.TcCoe Idealize.SL.Sem Cert.KernelIdeal.Gen

variable {F : FTy → Type} [FloatOps F]
variable (m : (ℓ : Loc nD τ sig) → Buf (Elt F) ℓ)

/-- The tokens' numbers. -/
abbrev ids (c : Dev nD) : S1024.Idx → BitVec 32 := m ((c : Thread nD τ).loc main_arg0)
/-- Those of the device's half of the batch, less the first row of the device's part of the table. -/
abbrev rel (c : Dev nD) : S512.Idx → Elt F .i32 := V1 m c main_v16

theorem V1_lo (c : Dev nD) : V1 m c main_c_9 = constantI S_ 32 0#32 := by
  show StableHlo.after (hostOps0 c) (V0 m c) main_c_9 = _
  after_results_simp_entrywise
theorem V1_hi (c : Dev nD) : V1 m c main_c_10 = constantI S_ 32 8191#32 := by
  show StableHlo.after (hostOps0 c) (V0 m c) main_c_10 = _
  after_results_simp_entrywise

/-- The row numbers the kernel is given. -/
theorem safe_eq (c : Dev nD) : V3 m c main_v22
    = minsi (broadcastInDim S512 ![] bcast_S_S512 (constantI S_ 32 8191#32))
        (maxsi (broadcastInDim S512 ![] bcast_S_S512 (constantI S_ 32 0#32)) (rel m c)) := by
  refine (V3_of m c main_v22 (by decide)).trans ?_
  rw [← V1_lo m c, ← V1_hi m c]
  show StableHlo.after hostOps0_1 (V1 m c) main_v22 = minsi _ (maxsi _ (V1 m c main_v16))
  generalize V1 m c = W
  after_results_simp
  simp only [StableHlo.TRef.ofBuf_toBuf]
  rfl

/-- The mask the kernel is given. -/
theorem mask_eq (c : Dev nD) : V3 m c main_v24
    = broadcastInDim S512x1 ![0] bcast_S512_S512x1_0 (uitofp (F := F) .f32 (V1 m c main_v21)) := by
  rw [← V2_of m c main_v21 (by decide)]
  show StableHlo.after hostOps0_2 (V2 m c) main_v24 = _
  generalize V2 m c = W
  after_results_simp

theorem in_eq (c : Dev nD) : V1 m c main_v21
    = andi (cmpi .sge (rel m c) (broadcastInDim S512 ![] bcast_S_S512 (constantI S_ 32 0#32)))
        (cmpi .slt (rel m c) (broadcastInDim S512 ![] bcast_S_S512 (constantI S_ 32 8192#32))) := by
  show StableHlo.after (hostOps0 c) (V0 m c) main_v21 = andi (cmpi .sge (StableHlo.after (hostOps0 c) (V0 m c) main_v16) _) (cmpi .slt (StableHlo.after (hostOps0 c) (V0 m c) main_v16) _)
  after_results_simp_entrywise

theorem first_row : ∀ c : Dev nD,
    (muli (Host.remui (Host.divui (constantI S_ 32 (Dev.word c)) (constantI S_ 32 1#32)) (constantI S_ 32 2#32)) (constantI S_ 32 8192#32) : IVec S_ 32)
      (fun a => a.elim0) = BitVec.ofNat 32 (8192 * (c.val % 2)) := by decide +kernel

/-- The tokens are those of the device's half of the batch. -/
theorem rel_apply (c : Dev nD) (i : S512.Idx) : rel m c i
    = ids m c (ix1 (⟨512 * (c.val / 2) + (i 0).val, by have h : (i 0).val < 512 := (i 0).isLt; have := c.isLt; show _ < 1024; unfold nD at this; omega⟩ : Fin 1024))
      - BitVec.ofNat 32 (8192 * (c.val % 2)) := by
  show StableHlo.after (hostOps0 c) (V0 m c) main_v16 i = _
  after_results_simp_entrywise
  refine congrArg₂ (· - ·) ?_ ?_
  · rw [Host.dynamicSlice_eq_extractStridedSlice (s := S1024) S512 _ _ (fun _ => 512 * (c.val / 2)) _
      (by fin_cases c <;> decide) (by intro a; fin_cases c <;> match a with | ⟨0, _⟩ => rfl)]
    exact extractStridedSlice_apply _ _ _ _ _ (by intro a; match a with | ⟨0, _⟩ => rfl)
  · rw [← first_row c]
    unfold broadcastInDim
    exact congrArg _ (funext fun a : Fin 0 => a.elim0)

/-- The row numbers, one by one. -/
theorem safe_apply (c : Dev nD) (i : S512.Idx) :
    V3 m c main_v22 i = Scalar.minsi (8191#32 : BitVec 32) (Scalar.maxsi 0#32 (rel m c i)) := by
  rw [safe_eq]; rfl

/-- A row number is a row of the device's part of the table, whatever the token's number. -/
theorem clip_lt (x : BitVec 32) : BitVec.toNat (Scalar.minsi (8191#32 : BitVec 32) (Scalar.maxsi 0#32 x)) < 8192 := by
  unfold Scalar.minsi Scalar.maxsi IntOp.minsi IntOp.maxsi
  simp only [BitVec.slt]
  have hx := x.isLt
  split_ifs with h1 h2 h2
  · decide
  · decide
  · decide
  · simp only [decide_eq_true_eq, BitVec.toInt_eq_toNat_cond, show (0#32).toNat = 0 from rfl, show (8191#32).toNat = 8191 from rfl] at h1 h2
    split_ifs at h1 h2 <;> omega

/-- What the kernel is called with from memory `m`. -/
def inputs : Inputs F where
  safe c := V3 m c main_v22
  mask c := V3 m c main_v24
  emb c := V3 m c main_arg1
  ok c i := by rw [safe_apply]; exact clip_lt _

end Cert.KernelIdeal.Run

end
-- ==== Proof.KernelIdeal.Region.lean ====
/-
The kernel's region of @main: what it is entered with, what its body makes of it, what it leaves.
-/
module

public import proofs.«01_k».proof.Proof.KernelIdeal.Body
public import proofs.«01_k».proof.Proof.KernelIdeal.Host
public import Idealize.ShloMosaic.Lib.Pipeline.RegionTalk
public import Idealize.ShloMosaic.Lib.Pipeline.Frame

@[expose] public section

set_option synthInstance.maxSize 4096

noncomputable section

namespace Cert.KernelIdeal.Run

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (I : Inputs F) (V : Dev nD → Valuation τ sig (Elt F))

/-! ## The semaphores of the kernel -/

/-- A chunk's five semaphores: the gather's and the four of the protocol. -/
abbrev osem : Fin 8 × Fin 5 → SemLoc sig := fun
  | (k, 0) => .dma (gSem k)
  | (k, 1) => rsem 0 k
  | (k, 2) => rsem 1 k
  | (k, 3) => rsem 2 k
  | (k, 4) => rsem 3 k

theorem own_osem : Pipeline.OwnSemFacts spec0 osem := by decide

abbrev zeros (c : Dev nD) (k : Fin 8) : sProp (M F) :=
  iprop(semVal (gCell k c) 0 ∗ semVal (cell 0 k c) 0 ∗ semVal (cell 1 k c) 0 ∗ semVal (cell 2 k c) 0 ∗ semVal (cell 3 k c) 0)

theorem five (Φ : Fin 5 → sProp (M F)) : bigSep Finset.univ Φ = iprop(Φ 0 ∗ Φ 1 ∗ Φ 2 ∗ Φ 3 ∗ Φ 4) := by
  rw [show (Finset.univ : Finset (Fin 5)) = insert 0 (insert 1 (insert 2 (insert 3 {4}))) from by decide,
    bigSep_insert (by decide), bigSep_insert (by decide), bigSep_insert (by decide), bigSep_insert (by decide), bigSep_singleton]
  rfl

theorem ownSems_eq (c : Dev nD) :
    (Pipeline.ownSems0 osem c : sProp (M F)) = bigSep Finset.univ fun k : Fin 8 => zeros c k := by
  unfold Pipeline.ownSems0
  rw [bigSep_univ_prod]
  exact bigSep_congr fun k _ => five (fun a => (semVal ((c : Thread nD τ), osem (k, a)) 0 : sProp (M F)))

/-! ## What the launch leaves with a device, and its cells opened -/

/-- A chunk's part of it: the right to open its four cells, its duties, and the credit of what its partners send. -/
def dormant (c : Dev nD) (k : Fin 8) : sProp (M F) :=
  iprop((openTok EB (cell 0 k c) ∗ openTok EB (cell 1 k c) ∗ openTok EB (cell 2 k c) ∗ openTok EB (cell 3 k c))
    ∗ (dutyTok EB (cell 0 k c) 0 false ∗ dutyTok EB (cell 1 k (yn c)) 0 false ∗ dutyTok EB (cell 2 k c) 0 false
      ∗ dutyTok EB (cell 3 k (xn c)) 0 false)
    ∗ (ticket 1 c k ∗ ticket 3 c k))

/-- What a device holds of the protocol on entry, and with its cells opened. -/
def Tk (c : Dev nD) : sProp (M F) :=
  iprop((∃ K, recs I K) ∗ meeting c ∗ bigSep Finset.univ fun k : Fin 8 => dormant c k)
def Xk (c : Dev nD) : sProp (M F) :=
  iprop((∃ K, recs I K) ∗ levAts L lv ∗ meeting c ∗ (bigSep Finset.univ fun k : Fin 8 => links c k)
    ∗ bigSep Finset.univ fun k : Fin 8 => semVal (gCell k c) 0)
def Yk (c : Dev nD) : sProp (M F) := semVal (barCell c) 0

theorem open_cell (K : GSem nD τ sig → ℕ) (a : Fin 4) (k : Fin 8) (c : Dev nD) :
    iprop(recs I K ∗ openTok EB (cell a k c) ∗ semVal (cell a k c) 0)
      ⊢ (|={Set.univ}=> iprop(place a c k ∗ reached EB (cell a k c) 0) : sProp (M F)) := by
  unfold place
  iintro ⟨#HR, Ho, Hs⟩
  ihave #Hi := (recs_cell I K a k c) $$ [HR]
  · iexact HR
  imod (Rounds.cell_open EB (Rd I) (g := cell a k c) (Set.mem_univ (K (cell a k c)))) $$ [Ho Hs] with ⟨Hat, #Hr⟩
  · isplitr; · iexact Hi
    isplitl [Ho] <;> iassumption
  imodintro
  isplitl [Hat]; · iexact Hat
  iexact Hr

theorem open_chunk (K : GSem nD τ sig → ℕ) (c : Dev nD) (k : Fin 8) :
    iprop(recs I K ∗ (dormant c k ∗ zeros c k)) ⊢ (|={Set.univ}=> iprop(links c k ∗ semVal (gCell k c) 0) : sProp (M F)) := by
  unfold dormant links zeros
  iintro ⟨#HR, ⟨⟨Ho0, Ho1, Ho2, Ho3⟩, Hd, ⟨Ht1, Ht3⟩⟩, Hg, Hz0, Hz1, Hz2, Hz3⟩
  imod (open_cell I K 0 k c) $$ [Ho0 Hz0] with ⟨Hp0, #Hr0⟩
  · isplitr; · iexact HR
    isplitl [Ho0] <;> iassumption
  imod (open_cell I K 1 k c) $$ [Ho1 Hz1] with ⟨Hp1, #Hr1⟩
  · isplitr; · iexact HR
    isplitl [Ho1] <;> iassumption
  imod (open_cell I K 2 k c) $$ [Ho2 Hz2] with ⟨Hp2, #Hr2⟩
  · isplitr; · iexact HR
    isplitl [Ho2] <;> iassumption
  imod (open_cell I K 3 k c) $$ [Ho3 Hz3] with ⟨Hp3, #Hr3⟩
  · isplitr; · iexact HR
    isplitl [Ho3] <;> iassumption
  imodintro
  isplitr [Hg]
  · isplitl [Hd]; · iexact Hd
    isplitl
    · isplitr [Hp1 Ht1]
      · isplitl [Hp0]; · iexact Hp0
        isplitl [Hp2]; · iexact Hp2
        isplitl [Hp3] <;> iassumption
      isplitl [Hp1] <;> iassumption
    isplitr; · iexact Hr0
    isplitr; · iexact Hr1
    isplitr; · iexact Hr2
    iexact Hr3
  iexact Hg

theorem open_chunks (K : GSem nD τ sig → ℕ) (c : Dev nD) :
    iprop(recs I K ∗ bigSep Finset.univ fun k : Fin 8 => iprop(dormant c k ∗ zeros c k))
      ⊢ (|={Set.univ}=> bigSep Finset.univ fun k : Fin 8 => iprop(links c k ∗ semVal (gCell k c) 0) : sProp (M F)) :=
  (bigSep_with_persistent fun k _ => open_chunk I K c k).trans (BI.bigSep_fupd _ _)

theorem open_all (c : Dev nD) :
    iprop(Tk I c ∗ Pipeline.ownSems0 osem c ∗ levAts L lv) ⊢ (|={Set.univ}=> Xk I c : sProp (M F)) := by
  rw [ownSems_eq]
  unfold Tk Xk
  iintro ⟨⟨⟨%K, #HR⟩, Hm, Hd⟩, Hz, #Hlev⟩
  imod (open_chunks I K c) $$ [Hd Hz] with H
  · isplitr; · iexact HR
    iapply (Entails.of_eq (join Finset.univ (fun k : Fin 8 => dormant c k) fun k => zeros c k).symm)
    isplitl [Hd] <;> iassumption
  ihave H' := (Entails.of_eq (join Finset.univ (fun k : Fin 8 => links (F := F) c k) fun k => semVal (gCell k c) 0)) $$ [H]
  · iexact H
  icases H' with ⟨Hl, Hg⟩
  imodintro
  isplitr; · iexists K; iexact HR
  isplitr; · iexact Hlev
  isplitl [Hm]; · iexact Hm
  isplitl [Hl] <;> iassumption

/-! ## The region's data -/

/-- The scratch buffers, at contents nothing reads. -/
abbrev scratch (c : Dev nD) : sProp (M F) := iprop((∃ f, pt c cc0_scratch0 f) ∗ (∃ f, pt c cc0_scratch1 f))

/-- The two inputs are fetched whole, the result is written back whole; the table and the scratch buffers ride in the
    invariant; the device owes its signals and its chunks before the body and nothing after it. -/
def dat0 (c : Dev nD) : Dat τ (Elt F) Unit ℕ UU ℕ cfg0 c where
  A w := V c (Proc.devRef .tc (Pipeline.arrRef spec0 w))
  after w _ := match w with
    | ⟨0, _⟩ => I.safe c
    | ⟨1, _⟩ => I.mask c
    | ⟨2, _⟩ => Res I c
  Φ t := if t.val = 0 then iprop(Xk I c ∗ pt c main_arg1 (I.emb c) ∗ scratch c ∗ ∃ r, prngReg c r)
    else iprop(Yk c ∗ (bigSep Finset.univ fun k : Fin 8 => zeros c k) ∗ pt c main_arg1 (I.emb c) ∗ scratch c ∗ ∃ r, prngReg c r)
  q _ := fullShare
  owed t := if t.val = 0 then O₀ c else 0

abbrev pdats : (p : Fin 1) → (c : Dev nD) → Dat τ (Elt F) Unit ℕ UU ℕ (Pipeline.pin (pcfgs (F := F)) adm p) c
  | 0 => dat0 I V

theorem owed_first (c : Dev nD) : (dat0 I V c).owed t0_0.castSucc = O₀ c := by
  show (if (t0_0.castSucc : Fin (cfg0.N + 1)).val = 0 then O₀ c else 0) = O₀ c; exact if_pos rfl
theorem owed_zero (c : Dev nD) : (dat0 I V c).owed 0 = O₀ c := by
  show (if ((0 : Fin (cfg0.N + 1)).val = 0) then O₀ c else 0) = O₀ c; exact if_pos rfl
theorem owed_last (c : Dev nD) : (dat0 I V c).owed (Fin.last _) = 0 := by
  show (if (Fin.last cfg0.N).val = 0 then O₀ c else 0) = 0
  rw [Fin.val_last, if_neg (by rw [show cfg0.N = 1 from N_0]; decide)]

theorem owesAt_in (c : Dev nD) (t : Fin (cfg0.N + 1)) (O : CellTallies nD τ sig Unit) (h : (dat0 I V c).owed t = O) :
    owing c O ⊢ ((dat0 I V c).owesAt () t : sProp (M F)) := by
  unfold Dat.owesAt Pipeline.owesWithin Dat.bound
  rw [h, show (dat0 I V c).recorded t = Set.univ from rfl]
  iintro ⟨%W, HO⟩
  iexists W; isplitr; · ipureintro; exact fun _ _ => Or.inl trivial
  iexact HO
theorem owesAt_out (c : Dev nD) (t : Fin (cfg0.N + 1)) (O : CellTallies nD τ sig Unit) (h : (dat0 I V c).owed t = O) :
    ((dat0 I V c).owesAt () t : sProp (M F)) ⊢ owing c O := by
  unfold Dat.owesAt Pipeline.owesWithin
  rw [h]
  iintro ⟨%W, -, HO⟩
  iexists W; iexact HO

/-! ## Whole windows -/

theorem read_0 (f : main_v22.ty.Contents (Elt F)) (t : Fin cfg0.N) : ((cfg0.win 0).blk t).view.read (Elt F) f = f := by
  funext x
  refine congrArg f (funext fun a => Fin.ext ?_)
  exact Pipeline.Window.rect_emb_val_of_index_zero win0_0 t a (by match a with | ⟨0, _⟩ => rfl) x
theorem read_1 (f : main_v24.ty.Contents (Elt F)) (t : Fin cfg0.N) : ((cfg0.win 1).blk t).view.read (Elt F) f = f := by
  funext x
  refine congrArg f (funext fun a => Fin.ext ?_)
  exact Pipeline.Window.rect_emb_val_of_index_zero win0_1 t a (by match a with | ⟨0, _⟩ => rfl | ⟨1, _⟩ => rfl) x
theorem read_2 (f : main_v25.ty.Contents (Elt F)) (t : Fin cfg0.N) : ((cfg0.win 2).blk t).view.read (Elt F) f = f := by
  funext x
  refine congrArg f (funext fun a => Fin.ext ?_)
  exact Pipeline.Window.rect_emb_val_of_index_zero win0_2 t a (by match a with | ⟨0, _⟩ => rfl | ⟨1, _⟩ => rfl) x

/-- The arrays the windows name hold the kernel's inputs. -/
structure Fits : Prop where
  safe : ∀ c, V c main_v22 = I.safe c
  mask : ∀ c, V c main_v24 = I.mask c
  emb : ∀ c, V c main_arg1 = I.emb c

theorem before_0 (h : Fits I V) (c : Dev nD) (d) : (dat0 I V c).before 0 t0_0 d = I.safe c :=
  ((dat0 I V c).before_fetched 0 t0_0 (fetch0_0 _) d).trans ((read_0 ((dat0 I V c).A 0) t0_0).trans (h.safe c))
theorem before_1 (h : Fits I V) (c : Dev nD) (d) : (dat0 I V c).before 1 t0_0 d = I.mask c :=
  ((dat0 I V c).before_fetched 1 t0_0 (fetch0_1 _) d).trans ((read_1 ((dat0 I V c).A 1) t0_0).trans (h.mask c))

/-- The result's array ends at what the body computed. -/
theorem result_eq (c : Dev nD) : (dat0 I V c).arrAt 2 cfg0.N = Res I c :=
  (dat0 I V c).arrAt_eq_of_cover 2 (Res I c)
    (fun t _ => (show (dat0 I V c).flushed 2 t = Res I c from rfl).trans (read_2 (Res I c) t).symm)
    (fun i => ⟨t0_0, flush0_2 _, by
      have e : i = ((cfg0.win 2).blk t0_0).view.emb i := (funext fun a => Fin.ext
        (Pipeline.Window.rect_emb_val_of_index_zero win0_2 t0_0 a (by match a with | ⟨0, _⟩ => rfl | ⟨1, _⟩ => rfl) i).symm)
      rw [e]; exact View.emb_mem_set _ _⟩)

end Cert.KernelIdeal.Run

end
-- ==== Proof.KernelIdeal.Segment.lean ====
/-
The kernel's region as a segment of @main: the body's obligation met, and the segment's two ends.
-/
module

public import proofs.«01_k».proof.Proof.KernelIdeal.Region
public import Idealize.ShloMosaic.Lib.Pipeline.RegionTalk
public import Idealize.ShloMosaic.Lib.Pipeline.Frame

@[expose] public section

set_option synthInstance.maxSize 4096

noncomputable section

namespace Cert.KernelIdeal.Run

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (I : Inputs F) (V : Dev nD → Valuation τ sig (Elt F))

theorem own_out (c : Dev nD) (b : Ref sig .tc) (X : b.ty.Contents (Elt F)) :
    (owns (c : Thread nD τ) (Memref.whole b) fullShare X : sProp (M F)) ⊢ pt c b X := by
  rw [owns_whole_eq]
  iintro ⟨%f, %hf, H⟩
  subst hf
  iexact H
theorem own_in (c : Dev nD) (b : Ref sig .tc) (X : b.ty.Contents (Elt F)) :
    pt c b X ⊢ (owns (c : Thread nD τ) (Memref.whole b) fullShare X : sProp (M F)) := by
  rw [owns_whole_eq]
  iintro H
  iexists X; isplitr; · ipureintro; rfl
  iexact H

theorem body_run (c : Dev nD) (fo : S1024x1024.Idx → Elt F .f32) (Q : PUnit → sProp (M F)) :
    iprop(Xk I c ∗ pt c main_arg1 (I.emb c) ∗ scratch c ∗ wins I c ∗ pt c cc0_stg2_0 fo ∗ owing c (O₀ c))
      ⊢ iprop((iprop(finish I c ∗ owing c 0) -∗ Q ⟨⟩) -∗ run c (bodyAt0 t0_0) Q) := by
  rw [body_eq]
  unfold Xk run
  rw [wp_deviceId]
  iintro ⟨⟨⟨%K, #HR⟩, #Hlev, Hm, Hl, Hg⟩, He, Hs, Hw, Ho, HO⟩ Hk
  iapply (whole_run I K c fo Q) $$ [Hm Hl Hg He Hs Hw Ho HO]
  · isplitr; · iexact HR
    isplitr; · iexact Hlev
    isplitr [HO]
    · unfold start
      isplitl [Hw]; · iexact Hw
      isplitl [Ho]; · iexact Ho
      isplitl [Hs]; · iexact Hs
      isplitl [He]; · iexact He
      isplitl [Hg]; · iexact Hg
      isplitl [Hm]; · iexact Hm
      iexact Hl
    iexact HO
  iexact Hk

theorem body_obligation (h : Fits I V) (c : Dev nD) : BodyObligation (dat0 I V c) (defs₀ (F := F)) 𝒱₀ () Set.univ := fun t => by
  obtain rfl := fin_N0 t
  rw [bigSep_W0, bigSep_W0]
  show iprop(iprop(Xk I c ∗ pt c main_arg1 (I.emb c) ∗ scratch c ∗ ∃ r, prngReg c r)
      ∗ (dat0 I V c).owesAt () t0_0.castSucc
      ∗ (∃ d, owns (c : Thread nD τ) (Memref.whole cc0_stg0_0) fullShare ((dat0 I V c).before 0 t0_0 d))
      ∗ (∃ d, owns (c : Thread nD τ) (Memref.whole cc0_stg1_0) fullShare ((dat0 I V c).before 1 t0_0 d))
      ∗ (∃ d, owns (c : Thread nD τ) (Memref.whole cc0_stg2_0) fullShare ((dat0 I V c).before 2 t0_0 d)))
    ⊢ run c (bodyAt0 t0_0) (fun _ => iprop(
      iprop(Yk c ∗ (bigSep Finset.univ fun k : Fin 8 => zeros c k) ∗ pt c main_arg1 (I.emb c) ∗ scratch c ∗ ∃ r, prngReg c r)
      ∗ (dat0 I V c).owesAt () t0_0.succ
      ∗ owns (c : Thread nD τ) (Memref.whole cc0_stg0_0) fullShare (I.safe c)
      ∗ owns (c : Thread nD τ) (Memref.whole cc0_stg1_0) fullShare (I.mask c)
      ∗ owns (c : Thread nD τ) (Memref.whole cc0_stg2_0) fullShare (Res I c)))
  iintro ⟨⟨HX, He, Hs, Hp⟩, HO, ⟨%d0, H0⟩, ⟨%d1, H1⟩, ⟨%d2, H2⟩⟩
  rw [before_0 I V h, before_1 I V h]
  iapply (body_run I c ((dat0 I V c).before 2 t0_0 d2) _) $$ [HX He Hs HO H0 H1 H2]
  · isplitl [HX]; · iexact HX
    isplitl [He]; · iexact He
    isplitl [Hs]; · iexact Hs
    isplitl [H0 H1]
    · unfold wins
      isplitl [H0]
      · iapply (own_out c cc0_stg0_0 _); iexact H0
      iapply (own_out c cc0_stg1_0 _); iexact H1
    isplitl [H2]
    · iapply (own_out c cc0_stg2_0 _); iexact H2
    iapply (owesAt_out I V c t0_0.castSucc (O₀ c) (owed_first I V c)); iexact HO
  unfold finish wins Yk
  iintro ⟨⟨⟨H0, H1⟩, H2, Hs, He, Hb, Hz⟩, HO⟩
  isplitl [Hb Hz He Hs Hp]
  · isplitl [Hb]; · iexact Hb
    isplitl [Hz]; · iexact Hz
    isplitl [He]; · iexact He
    isplitl [Hs]; · iexact Hs
    iexact Hp
  isplitl [HO]
  · iapply (owesAt_in I V c t0_0.succ 0 (owed_last I V c)); iexact HO
  isplitl [H0]; · iapply (own_in c cc0_stg0_0 _); iexact H0
  isplitl [H1]; · iapply (own_in c cc0_stg1_0 _); iexact H1
  iapply (own_in c cc0_stg2_0 _); iexact H2

/-! ## The buffers at the region's two ends -/

/-- What the region leaves: the result's array at what the body computed. -/
abbrev W' (c : Dev nD) : Valuation τ sig (Elt F) := Function.update (V c) (Proc.devRef .tc main_v25) (Res I c)
theorem W'_res (c : Dev nD) : W' I V c main_v25 = Res I c := Function.update_self ..
theorem W'_of (c : Dev nD) (b : DevRef τ sig) (h : b ≠ Proc.devRef .tc main_v25) : W' I V c b = V c b := Function.update_of_ne h ..

abbrev arrs : Finset (DevRef τ sig) := Pipeline.arrRefs (τ := τ) spec0
abbrev table : Finset (DevRef τ sig) := {Proc.devRef .tc main_arg1}
abbrev others : Finset (DevRef τ sig) := Pipeline.ucRefs τ sig \ arrs

theorem arrs_mem (w : Fin 3) : Proc.devRef .tc (Pipeline.arrRef spec0 w) ∈ arrs :=
  Finset.mem_map_of_mem _ (Finset.mem_image_of_mem _ (Finset.mem_univ w))
theorem res_mem : (Proc.devRef .tc main_v25 : DevRef τ sig) ∈ arrs := arrs_mem 2
theorem arrs_sub : arrs ⊆ Pipeline.ucRefs τ sig := Pipeline.arrRefs_sub_ucRefs spec0 (by decide)
theorem table_sub : table ⊆ others := by decide

theorem held_table (c : Dev nD) (V : Valuation τ sig (Elt F)) (f : main_arg1.ty.Contents (Elt F)) (h : V (Proc.devRef .tc main_arg1) = f) :
    (StableHlo.held (c : Thread nD τ) table V : sProp (M F)) = pt c main_arg1 f := by
  unfold StableHlo.held
  rw [BI.bigSep_singleton]
  subst h
  rfl

theorem region_in (h : Fits I V) (c : Dev nD) :
    iprop(Pipeline.scopedRest (Pipeline.pin (pcfgs (F := F)) adm 0).spec c ∗ (∃ r, prngReg c r) ∗ StableHlo.held (c.tc : Thread nD τ) table (V c) ∗ Xk I c)
      ⊢ (pdats I V 0 c).Φ 0 := by
  rw [show (pdats I V 0 c).Φ 0 = iprop(Xk I c ∗ pt c main_arg1 (I.emb c) ∗ scratch c ∗ ∃ r, prngReg c r) from rfl,
    show Pipeline.scopedRest (Pipeline.pin (pcfgs (F := F)) adm 0).spec c = (scratch c : sProp (M F)) from scopedRest0_eq c,
    held_table c (V c) (I.emb c) (h.emb c)]
  iintro ⟨Hs, Hp, He, HX⟩
  isplitl [HX]; · iexact HX
  isplitl [He]; · iexact He
  isplitl [Hs]; · iexact Hs
  iexact Hp

theorem region_out (h : Fits I V) (c : Dev nD) : (pdats I V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) table (W' I V c) ∗ Pipeline.ownSems0 osem c ∗ Yk c) := by
  rw [show (pdats I V 0 c).Φ (Fin.last _) = iprop(Yk c ∗ (bigSep Finset.univ fun k : Fin 8 => zeros c k) ∗ pt c main_arg1 (I.emb c) ∗ scratch c ∗ ∃ r, prngReg c r) from rfl,
    show Pipeline.scopedRest (Pipeline.pin (pcfgs (F := F)) adm 0).spec c = (scratch c : sProp (M F)) from scopedRest0_eq c,
    held_table c (W' I V c) (I.emb c) ((W'_of I V c _ (by decide)).trans (h.emb c)), ownSems_eq]
  iintro ⟨HY, Hz, He, Hs, Hp⟩
  isplitl [Hs]; · iexact Hs
  isplitl [Hp]; · iexact Hp
  isplitl [He]; · iexact He
  isplitl [Hz]; · iexact Hz
  iexact HY

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What a device owes is owed above the order of the staging copies. -/
theorem owed_above (c : Dev nD) (g : GSem nD τ sig) (i : Unit) (h : 0 < O₀ c g i) : i ∈ L g ∧ (0 : ℕ) < lv g i := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · rcases owed_pos h with ⟨j, -, rfl⟩ | ⟨j, -, rfl⟩
      · exact ⟨by rw [L_tc]; exact Finset.mem_singleton_self _, by show 0 < lvS (rsem 1 j); rw [lvS_yr]; omega⟩
      · exact ⟨by rw [L_tc]; exact Finset.mem_singleton_self _, by show 0 < lvS (rsem 3 j); rw [lvS_xr]; omega⟩
    · rw [tallyAt_apply] at h
      split at h
      · next hg => obtain rfl := hg.1; exact ⟨by rw [L_tc]; exact Finset.mem_singleton_self _, by show 0 < lvS (.reg barS); rw [lvS_bar]; omega⟩
      · exact absurd h (Nat.lt_irrefl 0)
  · rw [tallyAt_apply] at h
    split at h
    · next hg => obtain rfl := hg.1; exact ⟨by rw [L_tc]; exact Finset.mem_singleton_self _, by show 0 < lvS (.reg barS); rw [lvS_bar]; omega⟩
    · exact absurd h (Nat.lt_irrefl 0)

theorem cut_owed (c : Dev nD) (t : Fin (cfg0.N + 1)) (g : GSem nD τ sig) (i : Unit) (h : 0 < (dat0 I V c).owed t g i) :
    i ∈ L g ∧ (0 : ℕ) < lv g i := by
  rw [show (dat0 I V c).owed t = if t.val = 0 then O₀ c else 0 from rfl] at h
  split at h
  · exact owed_above c g i h
  · exact absurd h (Nat.lt_irrefl 0)

theorem stage_level : ∀ (w : Fin 3) (s : Fin ((win0 w).nbuf)), lvS (.dma ((win0 w).sem s)) = 0 := by decide

theorem arr_in (c : Dev nD) : ∀ w : Fin 3, (dat0 I V c).arrAt w 0 = V c (Proc.devRef .tc (Pipeline.arrRef spec0 w)) := fun w => rfl
theorem arr_out (c : Dev nD) : ∀ w : Fin 3, (dat0 I V c).arrAt w cfg0.N = W' I V c (Proc.devRef .tc (Pipeline.arrRef spec0 w))
  | 0 => ((dat0 I V c).arrAt_in 0 rfl _).trans (W'_of I V c (Proc.devRef .tc main_v22) (by decide)).symm
  | 1 => ((dat0 I V c).arrAt_in 1 rfl _).trans (W'_of I V c (Proc.devRef .tc main_v24) (by decide)).symm
  | 2 => (result_eq I V c).trans (W'_res I V c).symm
  | ⟨_ + 3, h⟩ => absurd h (Nat.not_lt.2 (Nat.le_add_left _ _))

set_option backward.isDefEq.respectTransparency.types false in
/-- The region. -/
def region (h : Fits I V) : Pipeline.RegionSeg (pcfgs (F := F)) adm (pdats I V) () defs₀ 𝒱₀ L lv 0 :=
  Pipeline.RegionSeg.ofTalk (pcfgs (F := F)) adm (pdats I V) () defs₀ 𝒱₀ L lv 0 osem own_osem
    table others table_sub kit rfl (fun c => (body_obligation I V h c).loose)
    (fun _ => 0) O₀ (fun c => (owed_zero I V c).trans (zero_add _).symm) (owed_last I V) (fun _ => rfl)
    (fun c w => by unfold Dat.share; split <;> rfl)
    V (W' I V)
    (fun c b hb => W'_of I V c b (fun e => (Finset.mem_sdiff.mp (Finset.mem_sdiff.mp hb).1).2 (e ▸ res_mem)))
    (Tk I) Yk (Xk I) Yk (open_all I) (region_in I V h) (region_out I V h)
    (fun c => by iintro H; imodintro; iexact H)
    (fun _ => 0)
    ⟨fun c w s => by rw [L_tc]; exact Finset.mem_singleton_self _, fun c w s => (stage_level w s).le, fun c t g i h => cut_owed I V c t g i h⟩
    (fun _ => iprop(emp))
    (arr_in I V) (arr_out I V)

end Cert.KernelIdeal.Run

end
-- ==== Proof.KernelIdeal.Launch.lean ====
/-
The launch: every semaphore of the protocol gets its cell, the tokens and the credit are dealt to the devices that use
them, and @main is run on all four.
-/
module

public import proofs.«01_k».proof.Proof.KernelIdeal.Segment
public import Idealize.ShloMosaic.Lib.Pipeline.Kit
public import Idealize.ShloMosaic.Lib.Quiescent

@[expose] public section

set_option synthInstance.maxSize 4096

noncomputable section

namespace Cert.KernelIdeal.Run

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (I : Inputs F)

/-! ## The tokens -/

def barTok : Dev nD × Bool ↪ GSem nD τ sig × ℕ × Bool :=
  ⟨fun x => (barCell x.1, 0, x.2), fun _ _ h =>
    Prod.ext (congrArg (fun t : GSem nD τ sig × ℕ × Bool => t.1.1.1) h) (congrArg (fun t : GSem nD τ sig × ℕ × Bool => t.2.2) h)⟩
def cellTok : Dev nD × (Fin 4 × Fin 8) ↪ GSem nD τ sig × ℕ × Bool :=
  ⟨fun x => (cellEmb x, 0, false), fun _ _ h => cellEmb.injective (congrArg (fun t : GSem nD τ sig × ℕ × Bool => t.1) h)⟩
/-- Both duties of every barrier, the one duty of every chunk's cell. -/
def allToks : Finset (GSem nD τ sig × ℕ × Bool) := Finset.univ.map barTok ∪ Finset.univ.map cellTok

theorem disjoint_toks : Disjoint (Finset.univ.map barTok) (Finset.univ.map cellTok) := by
  rw [Finset.disjoint_left]
  rintro t h₁ h₂
  obtain ⟨x, -, rfl⟩ := Finset.mem_map.mp h₁
  obtain ⟨y, -, h⟩ := Finset.mem_map.mp h₂
  exact rsem_ne_bar y.2.1 y.2.2 (congrArg (fun t : GSem nD τ sig × ℕ × Bool => t.1.2) h)

theorem four (Φ : Fin 4 → sProp (M F)) : bigSep Finset.univ Φ = iprop(Φ 0 ∗ Φ 1 ∗ Φ 2 ∗ Φ 3) := by
  rw [show (Finset.univ : Finset (Fin 4)) = insert 0 (insert 1 (insert 2 {3})) from by decide,
    bigSep_insert (by decide), bigSep_insert (by decide), bigSep_insert (by decide), bigSep_singleton]
  rfl
theorem both (Φ : Bool → sProp (M F)) : bigSep Finset.univ Φ = iprop(Φ false ∗ Φ true) := by
  rw [show (Finset.univ : Finset Bool) = insert false {true} from by decide, bigSep_insert (by decide), bigSep_singleton]
  rfl

def ySwap : Dev nD ≃ Dev nD := ⟨yn, yn, yn_yn, yn_yn⟩
def xSwap : Dev nD ≃ Dev nD := ⟨xn, xn, xn_xn, xn_xn⟩

theorem to_y (Φ : Dev nD → sProp (M F)) : bigSep Finset.univ Φ ⊢ bigSep Finset.univ fun c => Φ (yn c) :=
  Entails.of_eq (bigSep_univ_equiv ySwap Φ)
theorem to_x (Φ : Dev nD → sProp (M F)) : bigSep Finset.univ Φ ⊢ bigSep Finset.univ fun c => Φ (xn c) :=
  Entails.of_eq (bigSep_univ_equiv xSwap Φ)

/-- A barrier's two tokens go to the two devices that signal it. -/
theorem barToks_dealt : bigSep (Finset.univ.map barTok) (fun x => (dutyTok EB x.1 x.2.1 x.2.2 : sProp (M F)))
    ⊢ bigSep Finset.univ fun c : Dev nD => iprop(dutyTok EB (barCell (yn c)) 0 false ∗ dutyTok EB (barCell (xn c)) 0 true) := by
  rw [BI.bigSep_map, bigSep_univ_prod, join]
  refine (Entails.of_eq ((bigSep_congr fun c _ => both _).trans (join _ _ _))).trans ?_
  exact BIClass.sep_mono (to_y fun c => dutyTok EB (barCell c) 0 false) (to_x fun c => dutyTok EB (barCell c) 0 true)

/-- What one device gets of a chunk's cells' tokens. -/
abbrev dues (c : Dev nD) (k : Fin 8) : sProp (M F) :=
  iprop(dutyTok EB (cell 0 k c) 0 false ∗ dutyTok EB (cell 1 k (yn c)) 0 false ∗ dutyTok EB (cell 2 k c) 0 false
    ∗ dutyTok EB (cell 3 k (xn c)) 0 false)
abbrev opens (c : Dev nD) (k : Fin 8) : sProp (M F) :=
  iprop(openTok EB (cell 0 k c) ∗ openTok EB (cell 1 k c) ∗ openTok EB (cell 2 k c) ∗ openTok EB (cell 3 k c))

/-- Over all devices and chunks, four things each. -/
theorem spread (Φ₀ Φ₁ Φ₂ Φ₃ : Dev nD → Fin 8 → sProp (M F)) :
    (bigSep Finset.univ fun c : Dev nD => bigSep Finset.univ fun k : Fin 8 => iprop(Φ₀ c k ∗ Φ₁ c k ∗ Φ₂ c k ∗ Φ₃ c k))
      = iprop((bigSep Finset.univ fun c : Dev nD => bigSep Finset.univ fun k : Fin 8 => Φ₀ c k)
        ∗ (bigSep Finset.univ fun c : Dev nD => bigSep Finset.univ fun k : Fin 8 => Φ₁ c k)
        ∗ (bigSep Finset.univ fun c : Dev nD => bigSep Finset.univ fun k : Fin 8 => Φ₂ c k)
        ∗ bigSep Finset.univ fun c : Dev nD => bigSep Finset.univ fun k : Fin 8 => Φ₃ c k) := by
  rw [← join, ← join, ← join]
  refine bigSep_congr fun c _ => ?_
  rw [← join, ← join, ← join]

theorem by_kind (Φ : Dev nD × (Fin 4 × Fin 8) → sProp (M F)) : bigSep Finset.univ Φ
    = bigSep Finset.univ fun c : Dev nD => bigSep Finset.univ fun k : Fin 8 =>
      iprop(Φ (c, (0, k)) ∗ Φ (c, (1, k)) ∗ Φ (c, (2, k)) ∗ Φ (c, (3, k))) := by
  rw [bigSep_univ_prod]
  refine bigSep_congr fun c _ => ?_
  rw [bigSep_univ_prod, four, ← join, ← join, ← join]

/-- A chunk's cells' tokens go to the devices whose copies pay them. -/
theorem cellToks_dealt : bigSep (Finset.univ.map cellTok) (fun x => (dutyTok EB x.1 x.2.1 x.2.2 : sProp (M F)))
    ⊢ bigSep Finset.univ fun c : Dev nD => bigSep Finset.univ fun k : Fin 8 => dues c k := by
  rw [BI.bigSep_map, by_kind, spread, spread]
  exact BIClass.sep_mono (Entails.refl _)
    (BIClass.sep_mono (to_y fun c => bigSep Finset.univ fun k : Fin 8 => dutyTok EB (cell 1 k c) 0 false)
      (BIClass.sep_mono (Entails.refl _) (to_x fun c => bigSep Finset.univ fun k : Fin 8 => dutyTok EB (cell 3 k c) 0 false)))

theorem opens_dealt : bigSep chunkCells (fun g => (openTok EB g : sProp (M F)))
    ⊢ bigSep Finset.univ fun c : Dev nD => bigSep Finset.univ fun k : Fin 8 => opens c k := by
  rw [BI.bigSep_map, by_kind]
  exact Entails.refl _

/-! ## The credit -/

theorem cell_eq {a a' : Fin 4} {k k' : Fin 8} {c c' : Dev nD} (h : (cell a k c : GSem nD τ sig) = cell a' k' c') :
    c = c' ∧ a = a' ∧ k = k' := by
  have e := cellEmb.injective (a₁ := (c, (a, k))) (a₂ := (c', (a', k'))) h
  exact ⟨congrArg (fun x => x.1) e, congrArg (fun x => x.2.1) e, congrArg (fun x => x.2.2) e⟩
theorem cell_ne_bar (a : Fin 4) (k : Fin 8) (c d : Dev nD) : (cell a k c : GSem nD τ sig) ≠ barCell d :=
  fun h => rsem_ne_bar a k (congrArg Prod.snd h)

theorem all_from : Finset.univ.filter (fun j : Fin 8 => 0 ≤ j.val) = Finset.univ := by decide

theorem sum_hit (a : Fin 4) (k : Fin 8) (c e : Dev nD) :
    (∑ j : Fin 8, (tallyAt (cell a j e) () N : CellTallies nD τ sig Unit)) (cell a k c) () = if c = e then N else 0 := by
  rw [Finset.sum_apply, Finsupp.finsetSum_apply]
  simp only [tallyAt_apply]
  rw [Finset.sum_eq_single k]
  · by_cases h : c = e
    · subst h; rw [if_pos ⟨rfl, trivial⟩, if_pos rfl]
    · rw [if_neg (fun h' => h (cell_eq h'.1).1), if_neg h]
  · intro j _ hj
    exact if_neg (fun h' => hj (cell_eq h'.1).2.2.symm)
  · intro h; exact absurd (Finset.mem_univ k) h
theorem sum_miss (a : Fin 4) (e : Dev nD) (g : GSem nD τ sig) (h : ∀ j, g ≠ cell a j e) :
    (∑ j : Fin 8, (tallyAt (cell a j e) () N : CellTallies nD τ sig Unit)) g () = 0 := by
  rw [Finset.sum_apply, Finsupp.finsetSum_apply]
  exact Finset.sum_eq_zero fun j _ => by rw [tallyAt_apply, if_neg (fun e => h j e.1)]

theorem O₀_at (d : Dev nD) (g : GSem nD τ sig) : O₀ d g ()
    = (∑ j : Fin 8, (tallyAt (cell 1 j (yn d)) () N : CellTallies nD τ sig Unit)) g ()
      + (∑ j : Fin 8, (tallyAt (cell 3 j (xn d)) () N : CellTallies nD τ sig Unit)) g ()
      + (tallyAt (barCell (xn d)) () 1 : CellTallies nD τ sig Unit) g () + (tallyAt (barCell (yn d)) () 1 : CellTallies nD τ sig Unit) g () := by
  unfold O₀ owed
  rw [all_from]
  rfl

theorem eq_yn (c d : Dev nD) : c = yn d ↔ d = yn c := by revert c d; decide
theorem eq_xn (c d : Dev nD) : c = xn d ↔ d = xn c := by revert c d; decide

theorem owed_first_partner (d : Dev nD) (k : Fin 8) (c : Dev nD) : O₀ d (cell 1 k c) () = if d = yn c then N else 0 := by
  rw [O₀_at, sum_hit, sum_miss 3 _ _ (fun j h => absurd (cell_eq h).2.1 (by decide)), tallyAt_ne_cell (cell_ne_bar _ _ _ _),
    tallyAt_ne_cell (cell_ne_bar _ _ _ _), Finsupp.zero_apply]
  simp only [eq_yn c d, Nat.add_zero]
theorem owed_second_partner (d : Dev nD) (k : Fin 8) (c : Dev nD) : O₀ d (cell 3 k c) () = if d = xn c then N else 0 := by
  rw [O₀_at, sum_hit, sum_miss 1 _ _ (fun j h => absurd (cell_eq h).2.1 (by decide)), tallyAt_ne_cell (cell_ne_bar _ _ _ _),
    tallyAt_ne_cell (cell_ne_bar _ _ _ _), Finsupp.zero_apply]
  simp only [eq_xn c d, Nat.add_zero, Nat.zero_add]
theorem owed_barrier (d c : Dev nD) : O₀ d (barCell c) () = (if d = xn c then 1 else 0) + if d = yn c then 1 else 0 := by
  rw [O₀_at, sum_miss 1 _ _ (fun j h => cell_ne_bar _ _ _ _ h.symm), sum_miss 3 _ _ (fun j h => cell_ne_bar _ _ _ _ h.symm),
    tallyAt_apply, tallyAt_apply]
  have e (x : Dev nD) : ((barCell c : GSem nD τ sig) = barCell x) ↔ c = x :=
    ⟨fun h => congrArg (fun g : GSem nD τ sig => g.1.1) h, fun h => by rw [h]⟩
  simp only [e, and_true, eq_xn c d, eq_yn c d, Nat.zero_add]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_barrier d c, Finset.sum_add_distrib,
    Finset.sum_ite_eq' Finset.univ (xn c) fun _ => 1, Finset.sum_ite_eq' Finset.univ (yn c) fun _ => 1,
    if_pos (Finset.mem_univ _), if_pos (Finset.mem_univ _)]
theorem launch_y (c : Dev nD) (k : Fin 8) :
    tallyOn (cell 1 k c) (launchCredit (Pipeline.owing O₀) 0 (cell 1 k c)) = (tallyAt (cell 1 k c) () N : CellTallies nD τ sig Unit) := by
  unfold tallyAt; refine congrArg _ (Finsupp.ext fun u => ?_); cases u
  rw [Pipeline.launchCredit_owing, Finsupp.single_eq_same, Finset.sum_congr rfl fun d _ => owed_first_partner d k c,
    Finset.sum_ite_eq' Finset.univ (yn c) fun _ => N, if_pos (Finset.mem_univ _)]
theorem launch_x (c : Dev nD) (k : Fin 8) :
    tallyOn (cell 3 k c) (launchCredit (Pipeline.owing O₀) 0 (cell 3 k c)) = (tallyAt (cell 3 k c) () N : CellTallies nD τ sig Unit) := by
  unfold tallyAt; refine congrArg _ (Finsupp.ext fun u => ?_); cases u
  rw [Pipeline.launchCredit_owing, Finsupp.single_eq_same, Finset.sum_congr rfl fun d _ => owed_second_partner d k c,
    Finset.sum_ite_eq' Finset.univ (xn c) fun _ => N, if_pos (Finset.mem_univ _)]

theorem side_inj : ∀ {a b : Fin 2}, (if a = 0 then (1 : Fin 4) else 3) = (if b = 0 then 1 else 3) → a = b := by decide
/-- The semaphores a device's partners send to. -/
def fromPartners : Fin 2 × Fin 8 ↪ SemLoc sig :=
  ⟨fun x => rsem (if x.1 = 0 then 1 else 3) x.2, fun x y h => by
    have e : ((if x.1 = 0 then 1 else 3, x.2) : Fin 4 × Fin 8) = (if y.1 = 0 then 1 else 3, y.2) := rsem_inj (a₁ := (if x.1 = 0 then 1 else 3, x.2)) (a₂ := (if y.1 = 0 then 1 else 3, y.2)) h
    exact Prod.ext (side_inj (congrArg (fun z : Fin 4 × Fin 8 => z.1) e)) (congrArg (fun z : Fin 4 × Fin 8 => z.2) e)⟩

theorem creds (c : Dev nD) : (Pipeline.launchCred O₀ c : sProp (M F))
    ⊢ iprop(cred (tallyAt (barCell c) () 2) ∗ bigSep Finset.univ fun k : Fin 8 => iprop(ticket 1 c k ∗ ticket 3 c k)) := by
  unfold Pipeline.launchCred
  rw [bigSep_univ_at _ (SemLoc.reg barS), launch_bar]
  refine sep_mono_right ?_
  refine (BI.bigSep_subset (t := Finset.univ.map fromPartners) fun s hs => ?_).trans ?_
  · obtain ⟨x, -, rfl⟩ := Finset.mem_map.mp hs
    exact Finset.mem_erase.mpr ⟨show rsem _ _ ≠ _ from rsem_ne_bar _ _, Finset.mem_univ _⟩
  · rw [BI.bigSep_map, bigSep_univ_prod, BI.bigSep_fin_two, join]
    refine BIClass.sep_mono (Entails.of_eq (bigSep_congr fun k _ => ?_)) (Entails.of_eq (bigSep_congr fun k _ => ?_))
    · exact congrArg cred (launch_y c k)
    · exact congrArg cred (launch_x c k)

theorem barrier_only (c : Dev nD) : (unscopedSems0 c : sProp (M F)) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

/-! ## What a device enters @main with -/

/-- Whole on device `c₀`, nothing elsewhere. -/
def onDev (c₀ : Dev nD) (X : sProp (M F)) (c : Dev nD) : sProp (M F) := if c = c₀ then X else iprop(emp)
theorem onDev_all (c₀ : Dev nD) (X : sProp (M F)) : bigSep Finset.univ (onDev c₀ X) = X := by
  rw [bigSep_univ_at _ c₀, bigSep_congr (s := Finset.univ.erase c₀) (Ψ := fun _ => (BI.emp : sProp (M F)))
      fun c hc => by unfold onDev; rw [if_neg (Finset.ne_of_mem_erase hc)]; rfl, BI.bigSep_emp_const]
  unfold onDev; rw [if_pos rfl]
  exact BI.equiv_iff.mp sep_emp

abbrev b₀ : UB := launchOf barCells chunkCells allToks
def u₀ : UU :=
  (initOf (Pipeline.cells (Pipeline.pin (pcfgs (F := F)) adm) cellOf_inj) (Pipeline.launchToks (Pipeline.pin (pcfgs (F := F)) adm) cellOf_inj),
    (b₀, (1 : Counters)))
def G : Dev nD → sProp (M F) := onDev 0 (BI.own (EB b₀))

theorem start_split : (ownU (u₀ (F := F)) : sProp (M F)) ⊢ |={Set.univ}=>
    iprop(BI.own (EP (F := F) (initOf (Pipeline.cells (Pipeline.pin (pcfgs (F := F)) adm) cellOf_inj) (Pipeline.launchToks (Pipeline.pin (pcfgs (F := F)) adm) cellOf_inj)))
      ∗ bigSep Finset.univ (G (F := F))) := by
  unfold u₀ G
  iintro Hu
  ihave H := (ownU_pair _ _) $$ Hu
  icases H with ⟨HP, HX⟩
  imodintro
  isplitl [HP]; · iexact HP
  rw [onDev_all]; iexact HX

/-- The rest beside the buffers, before the region and after it. -/
def E : Fin 2 → Dev nD → sProp (M F) := fun
  | 0, c => iprop(Tk I c ∗ (∃ r, prngReg c r) ∗ owing c (O₀ c))
  | 1, c => iprop((∃ r, prngReg c r) ∗ Yk c ∗ owing c 0)

/-- What the deal gives a device, and what it has from the start. -/
def dealt (c : Dev nD) : sProp (M F) :=
  iprop(atPos EB (barCell c) 0 ∅ 0 ∗ (bigSep Finset.univ fun k : Fin 8 => opens c k)
    ∗ (dutyTok EB (barCell (yn c)) 0 false ∗ dutyTok EB (barCell (xn c)) 0 true) ∗ bigSep Finset.univ fun k : Fin 8 => dues c k)
def brought (H : sProp (M F)) (c : Dev nD) : sProp (M F) :=
  iprop(H ∗ (cred (tallyAt (barCell c) () 2) ∗ bigSep Finset.univ fun k : Fin 8 => iprop(ticket 1 c k ∗ ticket 3 c k))
    ∗ owes (c : Thread nD τ) (O₀ c) ∅ ∗ ∃ r, prngReg c r)

theorem part {Φ Ψ : Dev nD → sProp (M F)} :
    bigSep Finset.univ (fun c => iprop(Φ c ∗ Ψ c)) ⊢ iprop(bigSep Finset.univ Φ ∗ bigSep Finset.univ Ψ) :=
  Entails.of_eq (join _ _ _)
theorem both_parts {Φ Ψ : Dev nD → sProp (M F)} :
    iprop(bigSep Finset.univ Φ ∗ bigSep Finset.univ Ψ) ⊢ bigSep Finset.univ (fun c => iprop(Φ c ∗ Ψ c)) :=
  Entails.of_eq (join _ _ _).symm

theorem entry (K : GSem nD τ sig → ℕ) (H : Dev nD → sProp (M F)) (c : Dev nD) :
    iprop(recs I K ∗ (dealt c ∗ brought (H c) c)) ⊢ iprop(H c ∗ E I 0 c) := by
  unfold dealt brought
  rw [show E I 0 c = iprop(Tk I c ∗ (∃ r, prngReg c r) ∗ owing c (O₀ c)) from rfl]
  unfold Tk meeting dormant
  iintro ⟨#HR, ⟨Hat, Ho, ⟨Hy, Hx⟩, Hd⟩, HH, ⟨Hb, Ht⟩, HO, Hp⟩
  isplitl [HH]; · iexact HH
  isplitr [Hp HO]
  · isplitr; · iexists K; iexact HR
    isplitl [Hat Hy Hx Hb]
    · isplitl [Hy]; · iexact Hy
      isplitl [Hx]; · iexact Hx
      isplitl [Hat] <;> iassumption
    iapply (Entails.of_eq (join Finset.univ (fun k => opens c k) fun k => iprop(dues c k ∗ (ticket 1 c k ∗ ticket 3 c k))).symm)
    isplitl [Ho]; · iexact Ho
    iapply (Entails.of_eq (join Finset.univ (fun k => dues c k) fun k => iprop(ticket 1 c k ∗ ticket 3 c k)).symm)
    isplitl [Hd] <;> iassumption
  isplitl [Hp]; · iexact Hp
  iexists ∅; iexact HO

theorem init (m : (ℓ : Loc nD τ sig) → Buf (Elt F) ℓ) (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD =>
        iprop(StableHlo.held (c : Thread nD τ) (Pipeline.ucRefs τ sig) (V0 m c) ∗ E I 0 c) : sProp (M F)) := by
  have each (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(brought (StableHlo.held (c : Thread nD τ) (Pipeline.ucRefs τ sig) (V0 m c)) c ∗ (semVal (barCell c) 0 ∗ G c)) : sProp (M F)) := by
    rw [show unscopedBufs c (fun b => m ((c : Thread nD τ).loc b)) = (StableHlo.held (c : Thread nD τ) (Pipeline.ucRefs τ sig) (V0 m c) : sProp (M F)) from
      Pipeline.unscopedBufs_held (Ix := Unit) (Name := ℕ) (U := UU) (Lvl := ℕ) c (V0 m c), barrier_only]
    unfold brought
    iintro ⟨Hh, Hs, HO, Hc, Hp, HG⟩
    ihave Hc' := (creds (F := F) c) $$ Hc
    isplitr [Hs HG]
    · isplitl [Hh]; · iexact Hh
      isplitl [Hc']; · iexact Hc'
      isplitl [HO]; · iexact HO
      iexists (ρ c); iexact Hp
    isplitl [Hs] <;> iassumption
  have hv : bigSep Finset.univ (fun c : Dev nD => (semVal (barCell c) 0 : sProp (M F))) ⊢ bigSep barCells (fun g => (semVal g 0 : sProp (M F))) :=
    Entails.of_eq (BI.bigSep_map (s := Finset.univ) barEmb (Φ := fun g : GSem nD τ sig => (semVal g 0 : sProp (M F)))).symm
  have hat : bigSep barCells (fun g => (atPos EB g 0 ∅ 0 : sProp (M F))) ⊢ bigSep Finset.univ (fun c : Dev nD => (atPos EB (barCell c) 0 ∅ 0 : sProp (M F))) :=
    Entails.of_eq (BI.bigSep_map (s := Finset.univ) barEmb (Φ := fun g : GSem nD τ sig => (atPos EB g 0 ∅ 0 : sProp (M F))))
  iintro ⟨H, -⟩
  ihave H1 := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(brought (StableHlo.held (c : Thread nD τ) (Pipeline.ucRefs τ sig) (V0 m c)) c
        ∗ (semVal (barCell c) 0 ∗ G c)) : sProp (M F)) from bigSep_mono fun c _ => each c) $$ H
  ihave H2 := part $$ H1; icases H2 with ⟨HB, H3⟩
  ihave H4 := part $$ H3; icases H4 with ⟨Hv, HG⟩
  ihave Hu := (show bigSep Finset.univ (G (F := F)) ⊢ BI.own (EB b₀) from Entails.of_eq (onDev_all (F := F) 0 (BI.own (EB b₀)))) $$ HG
  imod (Rounds.fund_launch EB (Rd I) disjoint_cells (fun g _ h => h) allToks) $$ [Hv Hu] with ⟨%K, -, #Hinv, #Hr, Hat, Hopen, Htok⟩
  · isplitl [Hv]
    · iapply hv $$ Hv
    · iexact Hu
  ihave Ht := (show bigSep allToks (fun x => (dutyTok EB x.1 x.2.1 x.2.2 : sProp (M F)))
      ⊢ iprop(bigSep (Finset.univ.map barTok) (fun x => (dutyTok EB x.1 x.2.1 x.2.2 : sProp (M F)))
        ∗ bigSep (Finset.univ.map cellTok) (fun x => (dutyTok EB x.1 x.2.1 x.2.2 : sProp (M F)))) from
    Entails.of_eq (BI.bigSep_union disjoint_toks)) $$ Htok
  icases Ht with ⟨Hbt, Hct⟩
  imodintro
  iapply (bigSep_with_persistent (R := recs I K)
    (Φ := fun c => iprop(dealt c ∗ brought (StableHlo.held (c : Thread nD τ) (Pipeline.ucRefs τ sig) (V0 m c)) c))
    fun c _ => entry I K (fun c => StableHlo.held (c : Thread nD τ) (Pipeline.ucRefs τ sig) (V0 m c)) c)
  isplitr
  · unfold recs
    isplitr; · iexact Hinv
    iexact Hr
  iapply both_parts
  isplitr [HB]
  · unfold dealt
    iapply both_parts; isplitl [Hat]; · iapply hat $$ Hat
    iapply both_parts; isplitl [Hopen]; · iapply (opens_dealt (F := F)) $$ Hopen
    iapply both_parts; isplitl [Hbt]; · iapply (barToks_dealt (F := F)) $$ Hbt
    iapply (cellToks_dealt (F := F)) $$ Hct
  · iexact HB

/-! ## The run -/

variable (m : (ℓ : Loc nD τ sig) → Buf (Elt F) ℓ)

theorem fits_of (V : Dev nD → Valuation τ sig (Elt F)) (ok) :
    Fits { safe := fun c => V c main_v22, mask := fun c => V c main_v24, emb := fun c => V c main_arg1, ok := ok } V :=
  ⟨fun _ => rfl, fun _ => rfl, fun _ => rfl⟩
theorem fits : Fits (inputs m) (V3 m) := fits_of (V3 m) _

/-- What the kernel leaves in the result. -/
def outs : Outs (F := F) := fun _ r c => W' (inputs m) (V3 m) c r
theorem V4_eq (c : Dev nD) : V4 m (outs m) c = W' (inputs m) (V3 m) c :=
  congrArg (Function.update (V3 m c) (Proc.devRef .tc main_v25)) (W'_res (inputs m) (V3 m) c)

theorem region_pre (V : Dev nD → Valuation τ sig (Elt F)) (h : Fits I V) (c : Dev nD) :
    iprop(StableHlo.held (c : Thread nD τ) (Pipeline.ucRefs τ sig) (V c) ∗ E I 0 c) ⊢ (region I V h).pre c := by
  rw [StableHlo.held_sub_split (c : Thread nD τ) arrs_sub (V c)]
  show _ ⊢ iprop(StableHlo.held (c : Thread nD τ) arrs (V c) ∗ (∃ r, prngReg c r) ∗ (StableHlo.held (c : Thread nD τ) others (V c) ∗ emp) ∗ Tk I c
    ∗ ∃ W, owes (c : Thread nD τ) (0 + O₀ c) W)
  rw [zero_add, show E I 0 c = iprop(Tk I c ∗ (∃ r, prngReg c r) ∗ owing c (O₀ c)) from rfl]
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem region_post (V : Dev nD → Valuation τ sig (Elt F)) (h : Fits I V) (c : Dev nD) :
    (region I V h).post c ⊢ iprop((StableHlo.held (c : Thread nD τ) (Pipeline.ucRefs τ sig) (W' I V c) ∗ semVal (barCell c) 0)
      ∗ ∃ W, owes (c : Thread nD τ) (0 : CellTallies nD τ sig Unit) W) := by
  rw [StableHlo.held_sub_split (c : Thread nD τ) arrs_sub (W' I V c)]
  show iprop(StableHlo.held (c : Thread nD τ) arrs (W' I V c) ∗ (∃ r, prngReg c r) ∗ (StableHlo.held (c : Thread nD τ) others (W' I V c) ∗ emp) ∗ Yk c
    ∗ ∃ W, owes (c : Thread nD τ) 0 W) ⊢ _
  unfold Yk
  iintro ⟨Ha, -, ⟨Ho, -⟩, HY, HO⟩
  isplitr [HO]
  · isplitl [Ha Ho]
    · isplitl [Ha] <;> iassumption
    iexact HY
  iexact HO

theorem leaves (c : Dev nD) : (region (inputs m) (V3 m) (fits m)).post c
    ⊢ iprop((StableHlo.held (c : Thread nD τ) (Pipeline.ucRefs τ sig) (V4 m (outs m) c) ∗ semVal (barCell c) 0)
      ∗ ∃ W, owes (c : Thread nD τ) (0 : CellTallies nD τ sig Unit) W) := by
  rw [V4_eq m c]; exact region_post (inputs m) (V3 m) (fits m) c

/-- What every final memory holds on device `c`. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v25) = Res (inputs m) c) ∧ s.sem (barCell c) = 0

theorem ending (c : Dev nD) (s : Phys nD τ sig (Elt F)) :
    iprop((StableHlo.held (c : Thread nD τ) (Pipeline.ucRefs τ sig) (V4 m (outs m) c) ∗ semVal (barCell c) 0) ∗ SI s)
      ⊢ (|={Set.univ}=> iprop(⌜Ends m c s.mem⌝ ∗ SI s) : sProp (M F)) := by
  unfold StableHlo.held
  iintro ⟨⟨Hh, Hb⟩, HSI⟩
  icombine HSI Hb gives %hb
  ihave Hr := (pointsTo_read_all (Pipeline.ucRefs τ sig) (fun b => ((c : Thread nD τ).1, b)) (V4 m (outs m) c) s) $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V4_main_arg0 m (outs m) c),
      (h (Proc.devRef .tc main_arg1) (Finset.mem_filter.mpr ⟨StableHlo.devRef_mem_tcRefs main_arg1, by decide⟩)).trans (V4_main_arg1 m (outs m) c),
      (h (Proc.devRef .tc main_v25) (Finset.mem_filter.mpr ⟨StableHlo.devRef_mem_tcRefs main_v25, by decide⟩)).trans
        ((congrFun (V4_eq m c) _).trans (W'_res (inputs m) (V3 m) c))⟩, by simpa using hb⟩
  · iexact HSI

set_option backward.isDefEq.respectTransparency.types false in
/-- From any memory with zero counters every weakly fair execution of @main terminates; the arguments end as launched, the
    result at what the kernel computes of them, and every semaphore at zero. -/
theorem run_main (ρ : Dev nD → PrngReg) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v25) = Res (inputs m) c) ∧ r.2.sem = fun _ => 0) :=
  Pipeline.θ_run_regions_kit_dev_sems (pcfgs (F := F)) adm (pdats (inputs m) (V3 m)) () cellOf_inj EP defs₀ 𝒱₀ L lv m ρ main
    (segs m 𝒱₀ L lv (E (inputs m)) () (pdats (inputs m) (V3 m)) (region (inputs m) (V3 m) (fits m)))
    (fun c Q => by
      rewrite [main_chain c, Seg.run_eq_chain,
        show (segs m 𝒱₀ L lv (E (inputs m)) () (pdats (inputs m) (V3 m)) (region (inputs m) (V3 m) (fits m)) c).map Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G (u₀ (F := F)) start_split
    (T₀ := fun c => iprop(StableHlo.held (c : Thread nD τ) (Pipeline.ucRefs τ sig) (V0 m c) ∗ E (inputs m) 0 c))
    (Tₙ := fun c => iprop(StableHlo.held (c : Thread nD τ) (Pipeline.ucRefs τ sig) (V4 m (outs m) c) ∗ semVal (barCell c) 0))
    (hch := fun c => ⟨.rfl, .rfl, .rfl, region_pre (inputs m) (V3 m) (fits m) c, leaves m c⟩)
    (hinit := init (inputs m) m ρ) (QY := Ends m)
    (hfin := ending m)
    (hQ := fun s h hs => ⟨fun c => (h c).1, sem_eq_zero hs fun c sm hsm => by
        obtain rfl := unscoped_eq sm hsm
        exact (h c).2⟩)

end Cert.KernelIdeal.Run

end
-- ==== Proof.Words.lean ====
/-
Token numbers as words.

A token's number is in the vocabulary when it is not negative and below 16384.  These lemmas say what the comparisons,
the subtraction of a device's first row and the clipping give for such a number.
-/
module

public import Idealize.ShloMosaic.PureOps
public import Idealize.ShloMosaic.Lib.Affine

@[expose] public section

namespace Cert.Words

open Idealize.ShloMosaic

/-- The two comparisons that say a number is in the vocabulary bound it as a natural number. -/
theorem lt_of_in {x : BitVec 32} (h : IntOp.andi (IntOp.cmpi .sge x 0#32) (IntOp.cmpi .slt x 16384#32) = 1#1) :
    x.toNat < 16384 := by
  obtain ⟨h0, h1⟩ := IntOp.andi_eq_one.1 h
  rw [IntOp.cmpi_sge, show (0#32).toInt = 0 from rfl] at h0
  rw [IntOp.cmpi_slt, show (16384#32).toInt = 16384 from rfl] at h1
  have hx := x.isLt
  rw [BitVec.toInt_eq_toNat_cond] at h0 h1
  split_ifs at h0 h1 <;> omega

/-- A small word read signed is the same number. -/
theorem toInt_small {x : BitVec 32} (h : x.toNat < 16384) : x.toInt = x.toNat :=
  BitVec.toInt_eq_toNat_of_lt (by omega)

/-- A number of the vocabulary is not below zero. -/
theorem not_neg {x : BitVec 32} (h : x.toNat < 16384) : IntOp.cmpi .slt x 0#32 ≠ 1#1 := by
  rw [Ne, IntOp.cmpi_slt, toInt_small h, show (0#32).toInt = 0 from rfl]
  omega

/-- A number less the first row of the part `p` that it lies in. -/
theorem sub_own {x : BitVec 32} {p : Nat} (h : x.toNat < 16384) (hp : p < 2) (e : x.toNat / 8192 = p) :
    (x - BitVec.ofNat 32 (8192 * p)).toNat = x.toNat - 8192 * p := by
  rw [BitVec.toNat_sub, BitVec.toNat_ofNat]
  obtain rfl | rfl : p = 0 ∨ p = 1 := by omega
  · omega
  · omega

/-- A row of a part is found to be one, -/
theorem in_own {r : BitVec 32} (h : r.toNat < 8192) :
    IntOp.andi (IntOp.cmpi .sge r 0#32) (IntOp.cmpi .slt r 8192#32) = 1#1 := by
  have hr := toInt_small (x := r) (by omega)
  refine IntOp.andi_eq_one.2 ⟨?_, ?_⟩
  · rw [IntOp.cmpi_sge, hr, show (0#32).toInt = 0 from rfl]; omega
  · rw [IntOp.cmpi_slt, hr, show (8192#32).toInt = 8192 from rfl]; omega

/-- and the clipping leaves it. -/
theorem clip_own {r : BitVec 32} (h : r.toNat < 8192) :
    Scalar.minsi (8191#32 : BitVec 32) (Scalar.maxsi 0#32 r) = r := by
  have hr := toInt_small (x := r) (by omega)
  unfold Scalar.minsi Scalar.maxsi IntOp.minsi IntOp.maxsi
  have h0 : ¬ r.slt 0#32 = true := by
    rw [BitVec.slt_iff_toInt_lt, hr, show (0#32).toInt = 0 from rfl]; omega
  have h1 : ¬ (8191#32).slt r = true := by
    rw [BitVec.slt_iff_toInt_lt, hr, show (8191#32).toInt = 8191 from rfl]; omega
  rw [if_neg h0, if_neg h1]

/-- A number less the first row of the part that it does not lie in is found to be no row of it. -/
theorem not_other {x : BitVec 32} {p : Nat} (h : x.toNat < 16384) (hp : p < 2) (e : x.toNat / 8192 ≠ p) :
    IntOp.andi (IntOp.cmpi .sge (x - BitVec.ofNat 32 (8192 * p)) 0#32)
      (IntOp.cmpi .slt (x - BitVec.ofNat 32 (8192 * p)) 8192#32) = 0#1 := by
  have hb : ∀ b : BitVec 1, b ≠ 1#1 → b = 0#1 := by decide
  refine hb _ fun hh => ?_
  obtain ⟨h0, h1⟩ := IntOp.andi_eq_one.1 hh
  rw [IntOp.cmpi_sge, show (0#32).toInt = 0 from rfl] at h0
  rw [IntOp.cmpi_slt, show (8192#32).toInt = 8192 from rfl] at h1
  rw [BitVec.toInt_eq_toNat_cond, BitVec.toNat_sub, BitVec.toNat_ofNat] at h0 h1
  obtain rfl | rfl : p = 0 ∨ p = 1 := by omega
  · split_ifs at h0 h1 <;> omega
  · split_ifs at h0 h1 <;> omega

end Cert.Words
-- ==== Proof.KernelIdeal.Value.lean ====
/-
The kernel's result as rows of the whole table.

Each token's number lies in the part of the table of one of the two devices that look it up.  That device's mask is one
and its clipped row number is the row; the other's mask is zero and so are its masked rows.  The sum of the two is then
the row of the whole table, on every device.
-/
module

public import proofs.«01_k».proof.Proof.KernelIdeal.Launch
public import proofs.«01_k».proof.Proof.Words
public import proofs.«01_k».proof.Proof.Gen.Pre_in_vocabulary_KernelIdeal
public import Idealize.ShloMosaic.Lib.ReduceAll
public import Idealize.ShloMosaic.Lib.Layout
public import Idealize.ShloMosaic.PureOps.Ideal.Laws

@[expose] public section

set_option synthInstance.maxSize 4096

noncomputable section

namespace Cert.KernelIdeal.Run

open Idealize.ShloMosaic Idealize.ShloMosaic.TcCoe Idealize.SL.Sem Cert.KernelIdeal.Gen

/-! ## Keeping and dropping a row -/

theorem keep_one (b : Elt Ideal .f32) : keep (F := Ideal) (FloatOps.uitofp (F := Ideal) .f32 (1#1 : BitVec 1)) b = b := by
  unfold keep Scalar.select
  refine if_pos ?_
  show Ideal.cmp .one ((((1#1 : BitVec 1).toNat : ℝ)) : EReal) (Ideal.ofBits .f32 0#32) = 1#1
  rw [Ideal.ofBits_zero_f32]
  simp [Ideal.cmp]

theorem keep_zero (b : Elt Ideal .f32) : keep (F := Ideal) (FloatOps.uitofp (F := Ideal) .f32 (0#1 : BitVec 1)) b = (0 : EReal) := by
  unfold keep Scalar.select
  refine (if_neg ?_).trans Ideal.ofBits_zero_f32
  show ¬ Ideal.cmp .one ((((0#1 : BitVec 1).toNat : ℝ)) : EReal) (Ideal.ofBits .f32 0#32) = 1#1
  rw [Ideal.ofBits_zero_f32]
  simp [Ideal.cmp]

/-- A row with mask one is the device's row at its row number, -/
theorem msk_kept (I : Inputs Ideal) (c : Dev nD) (r : Fin 512) (y : Fin 1024) (k : Fin 8192)
    (hm : I.mask c (ix2 r (0 : Fin 1)) = FloatOps.uitofp (F := Ideal) .f32 (1#1 : BitVec 1))
    (hs : BitVec.toNat (I.safe c (ix1 r)) = k.val) : Msk I c (ix2 r y) = I.emb c (ix2 k y) := by
  have e : Msk I c (ix2 r y) = keep (I.mask c (ix2 r (0 : Fin 1))) (I.emb c (ix2 (⟨BitVec.toNat (I.safe c (ix1 r)), I.ok c _⟩ : Fin 8192) y)) := rfl
  rw [e, hm, keep_one]
  exact congrArg (fun k => I.emb c (ix2 k y)) (Fin.ext hs)

/-- and one with mask zero is zero. -/
theorem msk_dropped (I : Inputs Ideal) (c : Dev nD) (r : Fin 512) (y : Fin 1024)
    (hm : I.mask c (ix2 r (0 : Fin 1)) = FloatOps.uitofp (F := Ideal) .f32 (0#1 : BitVec 1)) : Msk I c (ix2 r y) = (0 : EReal) := by
  have e : Msk I c (ix2 r y) = keep (I.mask c (ix2 r (0 : Fin 1))) (Gat I c (ix2 r y)) := rfl
  rw [e, hm, keep_zero]

/-! ## The tokens' numbers -/

variable (m : (ℓ : Loc nD τ sig) → Buf (Elt Ideal) ℓ)

/-- What the precondition says: every token's number is in the vocabulary. -/
theorem in_vocabulary (c : Dev nD)
    (h : Cert.Pre_in_vocabulary_KernelIdeal.fn (F := Ideal) (m ((c.tc : Thread nD τ).loc main_arg0))
      (m ((c.tc : Thread nD τ).loc main_arg1)) = fun _ => 1#1) (i : S1024.Idx) : (ids m c i).toNat < 16384 := by
  haveI : Subsingleton Cert.Pre_in_vocabulary_KernelIdeal.S_.Idx := ⟨fun a b => funext fun x : Fin 0 => x.elim0⟩
  have h0 := congrFun h (fun x : Fin 0 => x.elim0)
  exact Words.lt_of_in (Host.reduce_andi_all _ _ _ _ _ h0 i)

/-- The mask, one row at a time. -/
theorem mask_apply (c : Dev nD) (i : Fin 512) : (inputs m).mask c (ix2 i (0 : Fin 1))
    = FloatOps.uitofp (F := Ideal) .f32 (IntOp.andi (IntOp.cmpi .sge (rel m c (ix1 i)) 0#32) (IntOp.cmpi .slt (rel m c (ix1 i)) 8192#32)) := by
  refine (congrFun ((fits m).mask c).symm (ix2 i (0 : Fin 1))).trans ?_
  refine (congrFun (mask_eq m c) (ix2 i (0 : Fin 1))).trans ?_
  refine (broadcastInDim_apply _ bcast_S512_S512x1_0 _ _ (ix1 i) (by intro a; match a with | ⟨0, _⟩ => rfl)).trans ?_
  exact congrArg (FloatOps.uitofp (F := Ideal) .f32) (congrFun (in_eq m c) (ix1 i))

/-- What the kernel is given for a token whose number, less the first row of the device's part, is known. -/
theorem given (c : Dev nD) (i : Fin 512) (d : BitVec 32) (h : rel m c (ix1 i) = d) :
    (inputs m).mask c (ix2 i (0 : Fin 1))
        = FloatOps.uitofp (F := Ideal) .f32 (IntOp.andi (IntOp.cmpi .sge d 0#32) (IntOp.cmpi .slt d 8192#32))
      ∧ (inputs m).safe c (ix1 i) = Scalar.minsi (8191#32 : BitVec 32) (Scalar.maxsi 0#32 d) := by
  have hs := ((fits m).safe c).symm
  have hk := safe_apply m c (ix1 i)
  rw [h] at hk
  refine ⟨?_, (congrFun hs (ix1 i)).trans hk⟩
  rw [← h]
  exact mask_apply m c i

theorem emb_eq (c : Dev nD) : (inputs m).emb c = m ((c.tc : Thread nD τ).loc main_arg1) :=
  ((fits m).emb c).symm.trans ((V3_of m c main_arg1 (by decide)).trans ((V2_of m c main_arg1 (by decide)).trans (V1_of m c main_arg1 (by decide))))

/-! ## The devices -/

theorem yn_part (c : Dev nD) : (yn c).val % 2 = 1 - c.val % 2 := by revert c; decide
theorem dev_lt (c : Dev nD) : c.val < 4 := c.isLt

/-! ## Rows -/

variable (n : S1024.Idx → BitVec 32) (E : (⟨2, ![16384, 1024]⟩ : Shape).Idx → Elt Ideal .f32)

/-- An element of a device's part of the table is one of the whole table. -/
theorem block_apply (c : Dev nD) (r : Fin 8192) (y : Fin 1024) :
    (Layout.blockN ⟨2, ![8192, 1024]⟩ ⟨2, ![16384, 1024]⟩ (Layout.meshBlock [2, 2] ![[1], []] c) E :
        (⟨2, ![8192, 1024]⟩ : Shape).Idx → Elt Ideal .f32) (ix2 r y)
      = E (ix2 (⟨8192 * (c.val % 2) + r.val, by have := r.isLt; omega⟩ : Fin 16384) y) := by
  rw [Layout.blockN_apply]
  refine congrArg E (funext fun a => Fin.ext ?_)
  have hp : Layout.meshLin [2, 2] c.val [1] = c.val % 2 := by revert c; decide
  match a with
  | ⟨0, _⟩ => show Layout.meshLin [2, 2] c.val [1] * 8192 + r.val = 8192 * (c.val % 2) + r.val; rw [hp]; omega
  | ⟨1, _⟩ => show Layout.meshLin [2, 2] c.val [] * 1024 + y.val = y.val; show 0 * 1024 + y.val = y.val; omega

variable (hn : ∀ c, ids m c = n) (hv : ∀ i, (n i).toNat < 16384)
  (hE : ∀ c : Dev nD, m ((c.tc : Thread nD τ).loc main_arg1)
    = Layout.blockN ⟨2, ![8192, 1024]⟩ ⟨2, ![16384, 1024]⟩ (Layout.meshBlock [2, 2] ![[1], []] c) E)

include hn in
theorem rel_of (c : Dev nD) (t : Fin 1024) (ht : t.val / 512 = c.val / 2) :
    rel m c (ix1 (⟨t.val % 512, Nat.mod_lt _ (by decide)⟩ : Fin 512)) = n (ix1 t) - BitVec.ofNat 32 (8192 * (c.val % 2)) := by
  rw [rel_apply, hn]
  refine congrArg (fun x => n x - _) ?_
  refine congrArg ix1 (Fin.ext ?_)
  show 512 * (c.val / 2) + t.val % 512 = t.val
  omega

include hn hE in
/-- The masked row of the device that holds it, -/
theorem masked_own (c : Dev nD) (t : Fin 1024) (y : Fin 1024) (ht : t.val / 512 = c.val / 2) (hv : (n (ix1 t)).toNat < 16384)
    (hp : (n (ix1 t)).toNat / 8192 = c.val % 2) :
    Msk (inputs m) c (ix2 (⟨t.val % 512, Nat.mod_lt _ (by decide)⟩ : Fin 512) y) = E (ix2 (⟨(n (ix1 t)).toNat, hv⟩ : Fin 16384) y) := by
  have hs := Words.sub_own hv (Nat.mod_lt _ (by decide)) hp
  obtain ⟨hm, hk⟩ := given m c _ _ (rel_of m n hn c t ht)
  generalize n (ix1 t) - BitVec.ofNat 32 (8192 * (c.val % 2)) = d at hs hm hk
  have hlt : BitVec.toNat d < 8192 := by rw [hs]; omega
  refine (msk_kept (inputs m) c _ y ⟨BitVec.toNat d, hlt⟩
    (hm.trans (congrArg (FloatOps.uitofp (F := Ideal) .f32) (Words.in_own hlt)))
    (congrArg BitVec.toNat (hk.trans (Words.clip_own hlt)))).trans ?_
  refine (congrFun ((emb_eq m c).trans (hE c)) _).trans ((block_apply E c _ y).trans ?_)
  refine congrArg (fun k => E (ix2 k y)) (Fin.ext ?_)
  show 8192 * (c.val % 2) + BitVec.toNat d = (n (ix1 t)).toNat
  rw [hs]
  omega

include hn in
/-- and that of the device that does not. -/
theorem masked_other (c : Dev nD) (t : Fin 1024) (y : Fin 1024) (ht : t.val / 512 = c.val / 2) (hv : (n (ix1 t)).toNat < 16384)
    (hp : (n (ix1 t)).toNat / 8192 ≠ c.val % 2) :
    Msk (inputs m) c (ix2 (⟨t.val % 512, Nat.mod_lt _ (by decide)⟩ : Fin 512) y) = (0 : EReal) :=
  msk_dropped (inputs m) c _ y ((given m c _ _ (rel_of m n hn c t ht)).1.trans
    (congrArg (FloatOps.uitofp (F := Ideal) .f32) (Words.not_other hv (Nat.mod_lt _ (by decide)) hp)))

include hn hE in
/-- The two added. -/
theorem half_apply (c : Dev nD) (t : Fin 1024) (y : Fin 1024) (ht : t.val / 512 = c.val / 2) (hv : (n (ix1 t)).toNat < 16384) :
    Half (inputs m) c (ix2 (⟨t.val % 512, Nat.mod_lt _ (by decide)⟩ : Fin 512) y) = E (ix2 (⟨(n (ix1 t)).toNat, hv⟩ : Fin 16384) y) := by
  have ht' : t.val / 512 = (yn c).val / 2 := ht.trans (yn_half c).symm
  have hy := yn_part c
  unfold Half
  show (Msk (inputs m) c _ : EReal) + (Msk (inputs m) (yn c) _ : EReal) = _
  by_cases hp : (n (ix1 t)).toNat / 8192 = c.val % 2
  · rw [masked_own m n E hn hE c t y ht hv hp, masked_other m n hn (yn c) t y ht' hv (by omega)]
    exact add_zero _
  · rw [masked_other m n hn c t y ht hv hp, masked_own m n E hn hE (yn c) t y ht' hv (by omega)]
    exact zero_add _

include hn hE in
/-- The result on every device: the whole table's rows. -/
theorem result_apply (c : Dev nD) (i : S1024x1024.Idx) (hv : (n (ix1 (i 0))).toNat < 16384) :
    Res (inputs m) c i = E (ix2 (⟨(n (ix1 (i 0))).toNat, hv⟩ : Fin 16384) (i 1)) := by
  have hi : (i 0).val < 1024 := (i 0).isLt
  have hc := dev_lt c
  have hx := xn_half c
  unfold Res
  by_cases h : (i 0).val / 512 = c.val / 2
  · exact (if_pos h).trans (half_apply m n E hn hE c (i 0) (i 1) h hv)
  · exact (if_neg h).trans (half_apply m n E hn hE (xn c) (i 0) (i 1) (by omega) hv)

end Cert.KernelIdeal.Run
-- ==== Proof.Reference.lean ====
/-
The reference's run: nine host operations on one device, ending with the rows of the table at the tokens' numbers.
-/
module

public import proofs.«01_k».proof.Proof.Gen.ReferenceIdeal
public import proofs.«01_k».proof.Proof.Words
public import Idealize.ShloMosaic.Lib.StableHlo.RunHlo
public import Idealize.ShloMosaic.Lib.StableHlo.RunClose
public import Idealize.ShloMosaic.Lib.Quiescent
public import Idealize.ShloMosaic.Lib.Pointwise.Index
public import Idealize.ShloMosaic.Lib.Routing.Ops

@[expose] public section

noncomputable section

namespace Cert.ReferenceIdeal.Run

open Idealize.ShloMosaic Idealize.ShloMosaic.TcCoe Idealize.ShloMosaic.StableHlo Idealize.SL.Sem
open Cert.ReferenceIdeal Cert.ReferenceIdeal.Gen

variable {F : FTy → Type} [FloatOps F]

/-- The host's row numbers: a negative number is counted from the table's end. -/
def rowNo (n : S1024.Idx → BitVec 32) : S1024.Idx → BitVec 32 :=
  select (cmpi .slt n (broadcastInDim S1024 ![] bcast_S_S1024 (constantI S_ 32 0#32)))
    (addi n (broadcastInDim S1024 ![] bcast_S_S1024 (constantI S_ 32 16384#32))) n

/-- The rows of the table at the tokens' numbers. -/
def rows (n : S1024.Idx → BitVec 32) (E : S16384x1024.Idx → Elt F .f32) : S1024x1024.Idx → Elt F .f32 :=
  Host.gather gather_S16384x1024_S1024x1_S1024x1024_1_0_n_n_0_1_11024 E
    (broadcastInDim S1024x1 ![0] bcast_S1024_S1024x1_0 (rowNo n))

/-- The row of a token whose number is in the vocabulary. -/
theorem rows_apply (n : S1024.Idx → BitVec 32) (E : S16384x1024.Idx → Elt F .f32) (i : S1024x1024.Idx)
    (h : (n (ix1 (i 0))).toNat < 16384) :
    rows n E i = E (ix2 (⟨(n (ix1 (i 0))).toNat, h⟩ : Fin 16384) (i 1)) := by
  refine (congrArg (rows n E) (eq_ix2 (n0 := 1024) (n1 := 1024) i)).trans ?_
  refine Routing.gather_row _ rfl rfl rfl rfl rfl E _ (i 0) (i 1) ⟨_, h⟩ ?_ (by decide)
  refine (Routing.bcCol _ (rowNo n) (i 0)).trans ?_
  show Scalar.select (IntOp.cmpi .slt (n (ix1 (i 0))) 0#32) (IntOp.addi (n (ix1 (i 0))) 16384#32) (n (ix1 (i 0))) = _
  rw [BitVec.ofNat_toNat, BitVec.setWidth_eq]
  exact if_neg (Words.not_neg h)

variable (m : (ℓ : Loc nD τ sig) → Buf (Elt F) ℓ) (ρ : Dev nD → PrngReg)

/-- The run: the arguments as they were, the result the rows, and no semaphore left raised. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v6)
        = rows (m ((c.tc : Thread nD τ).loc main_arg0)) (m ((c.tc : Thread nD τ).loc main_arg1)))
      ∧ r.2.sem = fun _ => 0) := by
  refine θ_run_mono (run_hlo defs main (by hlo_seq) (by decide) (by decide) ?_ ?_ m ρ) fun r hr => ?_
  · exact ⟨nullary_bufs_sub .., unary_bufs_sub .., binary_bufs_sub .., nullary_bufs_sub .., unary_bufs_sub .., binary_bufs_sub ..,
      ternary_bufs_sub .., unary_bufs_sub .., binary_bufs_sub ..⟩
  · intro op h
    simp only [List.mem_cons, List.not_mem_nil, or_false] at h
    rcases h with rfl | rfl | rfl | rfl | rfl | rfl | rfl | rfl | rfl <;> rfl
  refine ⟨fun c => ⟨(hr c main_arg0).trans ?_, (hr c main_arg1).trans ?_, (hr c main_v6).trans ?_⟩,
    sem_eq_zero_of_no_sems (by decide) r.2⟩
  · after_results
  · after_results
  · after_results
    rfl

end Cert.ReferenceIdeal.Run
-- ==== Proof.lean ====
/-
The certificate: the five claims from the runs of the three programs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocabulary_KernelIdeal
public import proofs.«01_k».proof.Proof.Gen.Pre_in_vocabulary_ReferenceIdeal
public import proofs.«01_k».proof.Proof.Kernel.Launch
public import proofs.«01_k».proof.Proof.KernelIdeal.Value
public import proofs.«01_k».proof.Proof.Reference

@[expose] public section

noncomputable section

namespace Cert.Proof

open Idealize.ShloMosaic Idealize.SL.Sem

theorem frame_Kernel : Cert.quiescent_Kernel := fun m g _ =>
  θ_run_mono (Cert.Kernel.Run.run_main m g) fun _ h => ⟨fun c => ⟨(h.1 c).1, (h.1 c).2.1⟩, h.2⟩

theorem frame_KernelIdeal : Cert.quiescent_KernelIdeal := fun m g _ =>
  θ_run_mono (Cert.KernelIdeal.Run.run_main m g) fun _ h => ⟨fun c => ⟨(h.1 c).1, (h.1 c).2.1⟩, h.2⟩

theorem frame_ReferenceIdeal : Cert.quiescent_ReferenceIdeal := fun m g _ =>
  θ_run_mono (Cert.ReferenceIdeal.Run.run_main m g) fun _ h => ⟨fun c => ⟨(h.1 c).1, (h.1 c).2.1⟩, h.2⟩

/-- The kernel's result on every device is the reference's. -/
theorem same_result : Cert.algebraic_KernelIdeal_ReferenceIdeal_pre_in_vocabulary_KernelIdeal := by
  intro m g m' g' hpre harg
  refine ⟨_, θ_run_mono (Cert.KernelIdeal.Run.run_main m g) fun r h c => ⟨?_, (h.1 c).1, (h.1 c).2.1⟩,
    θ_run_mono (Cert.ReferenceIdeal.Run.run_main m' g') fun r h => ⟨(h.1 0).2.2, (h.1 0).1, (h.1 0).2.1⟩⟩
  refine ((h.1 c).2.2).trans (funext fun i => ?_)
  have hn := fun c => (harg c).1
  have hv : ∀ i, BitVec.toNat (m' (((0 : Dev Cert.ReferenceIdeal.nD).tc : Thread Cert.ReferenceIdeal.nD Cert.ReferenceIdeal.τ).loc Cert.ReferenceIdeal.main_arg0) i) < 16384 := fun i => by
    rw [← hn c]
    exact Cert.KernelIdeal.Run.in_vocabulary m c (hpre c) i
  exact (Cert.KernelIdeal.Run.result_apply m _ _ hn (fun c => (harg c).2) c i (hv _)).trans
    (Cert.ReferenceIdeal.Run.rows_apply (F := Ideal) _ _ i (hv _)).symm

theorem claim : Cert.Claim :=
  ⟨Cert.Kernel.Gen.facts, Cert.KernelIdeal.Gen.facts, Cert.ReferenceIdeal.Gen.facts,
    Cert.Pre_in_vocabulary_KernelIdeal.Gen.facts, Cert.Pre_in_vocabulary_ReferenceIdeal.Gen.facts,
    frame_Kernel, frame_KernelIdeal, fun m g _ => frame_KernelIdeal m g trivial,
    frame_ReferenceIdeal, fun m g _ => frame_ReferenceIdeal m g trivial, trivial, same_result⟩

end Cert.Proof
